-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S512x2048 : Shape := ⟨2, ![512, 2048]⟩
abbrev S2x4x512x512 : Shape := ⟨4, ![2, 4, 512, 512]⟩
abbrev S2x3 : Shape := ⟨2, ![2, 3]⟩
abbrev S512x1024 : Shape := ⟨2, ![512, 1024]⟩
abbrev S1024x512 : Shape := ⟨2, ![1024, 512]⟩
abbrev S512x512 : Shape := ⟨2, ![512, 512]⟩
abbrev S1x1x512x512 : Shape := ⟨4, ![1, 1, 512, 512]⟩
abbrev S_ : Shape := ⟨0, ![]⟩
abbrev S1x1 : Shape := ⟨2, ![1, 1]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S512x2048, .f32⟩
  | .local _ .vmem, ⟨0, _⟩ => ⟨S2048x1024, .bf16⟩
  | .local _ .vmem, ⟨1, _⟩ => ⟨S1024x2048, .bf16⟩
  | .local _ .vmem, ⟨2, _⟩ => ⟨S512x2048, .f32⟩
  | .local _ .vmem, ⟨3, _⟩ => ⟨S2x4x512x512, .bf16⟩
  | .local _ .vmem, ⟨4, _⟩ => ⟨S2x4x512x512, .bf16⟩
  | .local _ .vmem, ⟨5, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v8 : BitVec 32 := Scalar.addi v2 c4_i32_5
  let c1_i32_6 : BitVec 32 := 1#32
  let v9 : BitVec 32 := Scalar.subi v8 c1_i32_6
  let c4_i32_7 : BitVec 32 := 4#32
  let v10 : BitVec 32 := Scalar.remsi v9 c4_i32_7
  let c512_i32 : BitVec 32 := 512#32
  let v13 : BitVec 32 := Scalar.muli v10 c512_i32
  let v14 : Index := Scalar.indexCast v13
  let c0 : Index := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v11 : BitVec 32 := Scalar.addi v2 c1_i32_8
  let c4_i32_9 : BitVec 32 := 4#32
  let v12 : BitVec 32 := Scalar.remsi v11 c4_i32_9
  let c512_i32_10 : BitVec 32 := 512#32
  let v17 : BitVec 32 := Scalar.muli v12 c512_i32_10
  let v18 : Index := Scalar.indexCast v17
  let c0_11 : Index := 0#32
  ![v18.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_23 : BitVec 32 := 1#32
  let v33 : BitVec 32 := Scalar.muli v7 c1_i32_23
  let v34 : BitVec 32 := Scalar.addi c0_i32 v33
  v34.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_25 : BitVec 32 := 1#32
  let v35 : BitVec 32 := Scalar.muli v4 c1_i32_25
  let v36 : BitVec 32 := Scalar.addi c0_i32_26 v35
  v36.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_35 : BitVec 32 := 1#32
  let v37 : BitVec 32 := Scalar.muli v4 c1_i32_35
  let v38 : BitVec 32 := Scalar.addi c0_i32_36 v37
  v38.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_59 : BitVec 32 := 1#32
  let v58 : BitVec 32 := Scalar.muli v7 c1_i32_59
  let v59 : BitVec 32 := Scalar.addi c0_i32_60 v58
  v59.toNat
def k0_dev5 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_82 : BitVec 32 := 1#32
  let v79 : BitVec 32 := Scalar.muli v4 c1_i32_82
  let v80 : BitVec 32 := Scalar.addi c0_i32_83 v79
  v80.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_106 : BitVec 32 := 1#32
  let v100 : BitVec 32 := Scalar.muli v7 c1_i32_106
  let v101 : BitVec 32 := Scalar.addi c0_i32_107 v100
  v101.toNat
def k0_off3 (d0 : Dev nD) (c0_i32_113 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v110 : BitVec 32 := Scalar.addi v2 c8_i32
  let c2_i32_112 : BitVec 32 := 2#32
  let v111 : BitVec 32 := Scalar.subi v110 c2_i32_112
  let v112 : BitVec 32 := Scalar.subi v111 c0_i32_113
  let c4_i32_114 : BitVec 32 := 4#32
  let v113 : BitVec 32 := Scalar.remsi v112 c4_i32_114
  let c512_i32_115 : BitVec 32 := 512#32
  let v114 : BitVec 32 := Scalar.muli v113 c512_i32_115
  let v115 : Index := Scalar.indexCast v114
  let c0_116 : Index := 0#32
  ![v115.toNat, 0]
def k0_off4 (d0 : Dev nD) (c0_i32_121 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_120 : BitVec 32 := 2#32
  let v120 : BitVec 32 := Scalar.addi v2 c2_i32_120
  let v121 : BitVec 32 := Scalar.addi v120 c0_i32_121
  let c4_i32_122 : BitVec 32 := 4#32
  let v122 : BitVec 32 := Scalar.remsi v121 c4_i32_122
  let c512_i32_123 : BitVec 32 := 512#32
  let v123 : BitVec 32 := Scalar.muli v122 c512_i32_123
  let v124 : Index := Scalar.indexCast v123
  let c0_124 : Index := 0#32
  ![v124.toNat, 0]
def k0_dev7 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_171 : BitVec 32 := 1#32
  let v152 : BitVec 32 := Scalar.muli v4 c1_i32_171
  let v153 : BitVec 32 := Scalar.addi c0_i32_172 v152
  v153.toNat
def k0_dev8 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_220 : BitVec 32 := 1#32
  let v185 : BitVec 32 := Scalar.muli v7 c1_i32_220
  let v186 : BitVec 32 := Scalar.addi c0_i32_221 v185
  v186.toNat
def k0_dev9 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_269 : BitVec 32 := 1#32
  let v218 : BitVec 32 := Scalar.muli v4 c1_i32_269
  let v219 : BitVec 32 := Scalar.addi c0_i32_270 v218
  v219.toNat
def k0_dev10 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_318 : BitVec 32 := 1#32
  let v251 : BitVec 32 := Scalar.muli v7 c1_i32_318
  let v252 : BitVec 32 := Scalar.addi c0_i32_319 v251
  v252.toNat
def k0_dev11 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_382 : BitVec 32 := 1#32
  let v303 : BitVec 32 := Scalar.muli v4 c1_i32_382
  let v304 : BitVec 32 := Scalar.addi c0_i32_383 v303
  v304.toNat
def k0_dev12 (d0 : Dev nD) : Nat :=
  let c0_i32_432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_431 : BitVec 32 := 1#32
  let v336 : BitVec 32 := Scalar.muli v7 c1_i32_431
  let v337 : BitVec 32 := Scalar.addi c0_i32_432 v336
  v337.toNat
def k0_dev13 (d0 : Dev nD) : Nat :=
  let c0_i32_481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_480 : BitVec 32 := 1#32
  let v369 : BitVec 32 := Scalar.muli v4 c1_i32_480
  let v370 : BitVec 32 := Scalar.addi c0_i32_481 v369
  v370.toNat
def k0_dev14 (d0 : Dev nD) : Nat :=
  let c0_i32_530 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_529 : BitVec 32 := 1#32
  let v402 : BitVec 32 := Scalar.muli v7 c1_i32_529
  let v403 : BitVec 32 := Scalar.addi c0_i32_530 v402
  v403.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x4096, .f32⟩
  | .hbm, ⟨3, _⟩ => ⟨S4096x2048, .f32⟩
  | .hbm, ⟨4, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdeal.Ring.lean ====
/-
# `Ring`: the ring of four devices, its transfers, and what travels on it

Four devices stand in a ring. Every device sends in both directions at once: direction `false` to the next device
(`nxt`), direction `true` to the one before (`prv`). In each direction two rails `r` carry one 512 x 512 tile each,
for three steps `s`. A transfer is named `(d, r, s)`; the program starts them in the order of `num`.
Transfer `(d, r, s)` leaves slot `s` of rail `r` of the direction's scratch array and lands in slot `s + 1` of the
neighbour's. This file names the devices, the memrefs, the semaphores and the contents of every slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Devices -/

set_option backward.proofsInPublic true in
/-- The next device of the ring. -/
def nxt (c : Dev nD) : Dev nD := ⟨(c.val + 1) % 4, Nat.mod_lt _ (by decide)⟩
set_option backward.proofsInPublic true in
/-- The device before. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The device that `c` sends to in direction `d`, and the one it receives from. -/
def dst (d : Bool) (c : Dev nD) : Dev nD := match d with | false => nxt c | true => prv c
def src (d : Bool) (c : Dev nD) : Dev nD := match d with | false => prv c | true => nxt c

theorem src_dst (d : Bool) (c : Dev nD) : src d (dst d c) = c := by revert d c; decide
theorem dst_src (d : Bool) (c : Dev nD) : dst d (src d c) = c := by revert d c; decide
theorem dst_not (d : Bool) (c : Dev nD) : dst (!d) c = src d c := by revert d c; decide

/-- One step of the ring in direction `d`, as a permutation of the devices. -/
def turn (d : Bool) : Dev nD ≃ Dev nD := ⟨dst d, src d, src_dst d, dst_src d⟩

/-! ## Transfers -/

/-- A transfer: its direction, its rail, its step. -/
abbrev T : Type := Bool × Fin 2 × Fin 3

/-- The place of a transfer in the program's order. -/
def num (t : T) : ℕ := 4 * t.2.2.val + 2 * t.2.1.val + t.1.toNat

theorem num_inj : Function.Injective num := by
  have h : ∀ a b : T, num a = num b → a = b := by decide
  exact fun a b => h a b
theorem num_lt (t : T) : num t < 12 := by revert t; decide
theorem num_step (t : T) : t.2.2.val = num t / 4 := by revert t; decide

/-! ## Memrefs -/

abbrev aM : Memref sig .tc .vmem S2048x1024 .bf16 := Memref.whole cc0_stg0_0
abbrev bM : Memref sig .tc .vmem S1024x2048 .bf16 := Memref.whole cc0_stg1_0
abbrev oM : Memref sig .tc .vmem S512x2048 .f32 := Memref.whole cc0_stg2_0
abbrev kM : Memref sig .tc .vmem S1024x2048 .bf16 := Memref.whole cc0_scratch2

/-- The scratch array of a direction: two rails of four slots. -/
abbrev comm : Bool → Memref sig .tc .vmem S2x4x512x512 .bf16 := fun
  | false => Memref.whole cc0_scratch0
  | true => Memref.whole cc0_scratch1

theorem slot_inb (r : Fin 2) (j : Fin 4) : ∀ a, (![r.val, j.val, 0, 0] : Fin 4 → ℕ) a + S1x1x512x512.size a ≤ S2x4x512x512.size a := by
  revert r j; decide

/-- The rectangle of slot `j` of rail `r`. -/
abbrev slotR (r : Fin 2) (j : Fin 4) : Rect S2x4x512x512 :=
  Rect.unit (s := S2x4x512x512) ![r.val, j.val, 0, 0] S1x1x512x512.size (slot_inb r j)

/-- Slot `j` of rail `r` of direction `d`. -/
abbrev slot (d : Bool) (r : Fin 2) (j : Fin 4) : Memref sig .tc .vmem S1x1x512x512 .bf16 :=
  (comm d).slice (slotR r j) (fun _ => rfl)

/-- The same, seen as a 512 x 512 tile, as the transfers name it. -/
abbrev slotSq (d : Bool) (r : Fin 2) (j : Fin 4) : Memref sig .tc .vmem S512x512 .bf16 :=
  (slot d r j).squeeze S512x512 squeezes_S1x1x512x512_S512x512

/-! ## Semaphores -/

theorem sem_inb (r : Fin 2) (s : Fin 3) : ∀ a, (![r.val, s.val] : Fin 2 → ℕ) a + S1x1.size a ≤ S2x3.size a := by revert r s; decide

/-- Entry `(r, s)` of an array of semaphores. -/
abbrev semAt (q : DmaSems sig S2x3) (r : Fin 2) (s : Fin 3) : DmaSem sig :=
  ((q.slice (Rect.unit (s := S2x3) ![r.val, s.val] S1x1.size (sem_inb r s))).squeeze S_ squeezes_S1x1_S_).sem

/-- The semaphores that a transfer pays: at the sender when its slot has been read, at the receiver when it has landed. -/
abbrev sendS (t : T) : DmaSem sig := match t.1 with
  | false => semAt cc0_scratch3 t.2.1 t.2.2
  | true => semAt cc0_scratch5 t.2.1 t.2.2
abbrev recvS (t : T) : DmaSem sig := match t.1 with
  | false => semAt cc0_scratch4 t.2.1 t.2.2
  | true => semAt cc0_scratch6 t.2.1 t.2.2
/-- The barrier semaphore of the kernel. -/
abbrev barS : Sem sig := (SemArray.scalar (sig.barrier 0 rfl) : Sems sig S_).sem

/-- The kinds of cell a device has: its barrier (`none`), the send (`some (false, t)`) and the receive cell
    (`some (true, t)`) of every transfer. -/
abbrev CI : Type := Option (Bool × T)

def osem (i : Bool × T) : SemLoc sig := match i.1 with | false => .dma (sendS i.2) | true => .dma (recvS i.2)
def csem : CI → SemLoc sig | none => .reg barS | some i => osem i

theorem csem_inj : Function.Injective csem := by
  have h : ∀ a b : Bool × T, osem a = osem b → a = b := by decide +kernel
  intro a b hab
  match a, b, hab with
  | none, none, _ => rfl
  | none, some (false, false, _), hab => cases hab
  | none, some (false, true, _), hab => cases hab
  | none, some (true, false, _), hab => cases hab
  | none, some (true, true, _), hab => cases hab
  | some (false, false, _), none, hab => cases hab
  | some (false, true, _), none, hab => cases hab
  | some (true, false, _), none, hab => cases hab
  | some (true, true, _), none, hab => cases hab
  | some a, some b, hab => exact congrArg some (h a b hab)

open Classical in
/-- Which cell a semaphore is, if it is one of these. -/
def dec (sm : SemLoc sig) : Option CI := if h : ∃ i, csem i = sm then some h.choose else none

theorem dec_csem (i : CI) : dec (csem i) = some i := by
  have h : ∃ j, csem j = csem i := ⟨i, rfl⟩
  unfold dec
  rw [dif_pos h]
  exact congrArg some (csem_inj h.choose_spec)

/-- A semaphore that is none of these is decoded to nothing. -/
theorem dec_none {sm : SemLoc sig} (h : ∀ i, csem i ≠ sm) : dec sm = none := by
  unfold dec
  exact dif_neg fun ⟨i, hi⟩ => h i hi

/-! ## Cells -/

/-- Cell `i` of device `c`. -/
abbrev kcell (c : Dev nD) (i : CI) : GSem nD τ sig := ((c : Thread nD τ), csem i)
abbrev barCell (c : Dev nD) : GSem nD τ sig := kcell c none
abbrev sendCell (c : Dev nD) (t : T) : GSem nD τ sig := kcell c (some (false, t))
abbrev recvCell (c : Dev nD) (t : T) : GSem nD τ sig := kcell c (some (true, t))

theorem kcell_inj {c c' : Dev nD} {i i' : CI} (h : kcell c i = kcell c' i') : c = c' ∧ i = i' := by
  have h1 := congrArg (fun g : GSem nD τ sig => g.1.1) h
  have h2 := congrArg Prod.snd h
  exact ⟨h1, csem_inj h2⟩

/-- What one transfer pays a semaphore. -/
abbrev N : ℕ := (slotSq false 0 0).view.dmaCredit
theorem N_pos : 0 < N := View.dmaCredit_pos _ (by decide)

end Cert.KernelIdealProof
-- ==== Proof.KernelIdeal.Contents.lean ====
/-
# `Contents`: what every buffer holds

Device `c` holds a column block `A_c` of A and a row block `B_c` of B. The kernel multiplies row blocks of `A_c` with
`B_c` and adds the products up along the ring. `sent c d r s` is the tile that device `c` sends by transfer
`(d, r, s)`, `outTile c d r` the tile of the result that it stores at the end.
-/
module

public import proofs.«01_k».proof.Proof.KernelIdeal.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of A and of B, as its staging buffers hold them. -/
def xA (c : Dev nD) : (cc0_stg0_0 : Ref sig .tc).ty.Contents (Elt F) :=
  (win0_0.blk (0 : Fin 1)).view.read (Elt F) ((s₀ m ρ).mem ((c : Thread nD τ).loc main_arg0))
def xB (c : Dev nD) : (cc0_stg1_0 : Ref sig .tc).ty.Contents (Elt F) :=
  (win0_1.blk (0 : Fin 1)).view.read (Elt F) ((s₀ m ρ).mem ((c : Thread nD τ).loc main_arg1))

theorem rows_inb (k : Dev nD) : ∀ a, (![512 * k.val, 0] : Fin 2 → ℕ) a + S512x1024.size a ≤ S2048x1024.size a := by revert k; decide
theorem cols_inb (j : Fin 4) : ∀ a, (![0, 512 * j.val] : Fin 2 → ℕ) a + S1024x512.size a ≤ S1024x2048.size a := by revert j; decide
theorem half_inb (h : Fin 2) : ∀ a, (![0, 1024 * h.val] : Fin 2 → ℕ) a + S1024x1024.size a ≤ S1024x2048.size a := by revert h; decide
theorem out_inb (j : Fin 4) : ∀ a, (![0, 512 * j.val] : Fin 2 → ℕ) a + S512x512.size a ≤ S512x2048.size a := by revert j; decide

/-- The rectangles: row block `k` of A; columns of tile `j` and of half `h` of B; columns of tile `j` of the result. -/
abbrev rowsR (k : Dev nD) : Rect S2048x1024 := Rect.unit (s := S2048x1024) ![512 * k.val, 0] S512x1024.size (rows_inb k)
abbrev colsR (j : Fin 4) : Rect S1024x2048 := Rect.unit (s := S1024x2048) ![0, 512 * j.val] S1024x512.size (cols_inb j)
abbrev halfR (h : Fin 2) : Rect S1024x2048 := Rect.unit (s := S1024x2048) ![0, 1024 * h.val] S1024x1024.size (half_inb h)
abbrev outR (j : Fin 4) : Rect S512x2048 := Rect.unit (s := S512x2048) ![0, 512 * j.val] S512x512.size (out_inb j)

/-- Row block `k` of device `c`'s A. -/
def aRows (c k : Dev nD) : Vec F S512x1024 .bf16 := fun i => xA m ρ c ((rowsR k).emb i)
/-- Columns of tile `j`, and of half `h`, of device `c`'s B. -/
def bCols (c : Dev nD) (j : Fin 4) : Vec F S1024x512 .bf16 := fun i => xB m ρ c ((colsR j).emb i)
def bHalf (c : Dev nD) (h : Fin 2) : Vec F S1024x1024 .bf16 := fun i => xB m ρ c ((halfR h).emb i)

/-- The tile of columns that rail `r` of direction `d` carries; the half of them that the direction carries. -/
def tile (d : Bool) (r : Fin 2) : Fin 4 := match d, r with | false, 0 => 0 | false, 1 => 1 | true, 0 => 2 | true, 1 => 3
def half (d : Bool) : Fin 2 := match d with | false => 0 | true => 1

set_option backward.proofsInPublic true in
/-- The row block that device `c` multiplies first in direction `d` (the one that ends three devices on), -/
def firstRows (d : Bool) (c : Dev nD) : Dev nD := match d with
  | false => ⟨(c.val + 3) % 4, Nat.mod_lt _ (by decide)⟩
  | true => ⟨(c.val + 1) % 4, Nat.mod_lt _ (by decide)⟩
set_option backward.proofsInPublic true in
/-- and the one that it multiplies in step `s`. -/
def stepRows (d : Bool) (c : Dev nD) (s : Fin 3) : Dev nD := match d with
  | false => ⟨(c.val + 6 - s.val) % 4, Nat.mod_lt _ (by decide)⟩
  | true => ⟨(c.val + s.val + 2) % 4, Nat.mod_lt _ (by decide)⟩

/-- The product that device `c` sends first by rail `r` of direction `d`. -/
def first (c : Dev nD) (d : Bool) (r : Fin 2) : FVec F S512x512 .bf16 :=
  truncf .bf16 (matmul dot_S512x1024_S1024x512_S512x512_1_0_0_1_n_n none (aRows m ρ c (firstRows d c)) (bCols m ρ c (tile d r))
    (constant S512x512 .f32 0x00000000#32)) bitsLt_bf16_f32

/-- The product, 1024 columns wide, that device `c` computes in step `s` for direction `d`. -/
def prod (c : Dev nD) (d : Bool) (s : Fin 3) : FVec F S512x1024 .f32 :=
  matmul dot_S512x1024_S1024x1024_S512x1024_1_0_0_1_n_n none (aRows m ρ c (stepRows d c s)) (bHalf m ρ c (half d))
    (constant S512x1024 .f32 0x00000000#32)

/-- The half of a product that rail `r` carries. -/
def railOf (r : Fin 2) (p : FVec F S512x1024 .f32) : FVec F S512x512 .f32 := match r with
  | 0 => extractStridedSlice S512x512 ![0, 0] p slices_S512x1024_o0_0_S512x512
  | 1 => extractStridedSlice S512x512 ![0, 512] p slices_S512x1024_o0_512_S512x512

/-- A slot's contents added to a product's half. -/
def addLanded (r : Fin 2) (p : FVec F S512x1024 .f32) (Y : Vec F S1x1x512x512 .bf16) : FVec F S512x512 .f32 :=
  addf (railOf r p) (extf .f32 (shapeCast S512x512 Y shapeCasts_S1x1x512x512_S512x512) bitsLt_bf16_f32)

/-- A tile as a slot holds it. -/
def asSlot (v : FVec F S512x512 .bf16) : Vec F S1x1x512x512 .bf16 := shapeCast S1x1x512x512 v shapeCasts_S512x512_S1x1x512x512

/-- What device `c` sends in step `s` by rail `r` of direction `d`: first its own product, then what has landed plus its
    own product. -/
def sentAt : ℕ → Dev nD → Bool → Fin 2 → Vec F S1x1x512x512 .bf16
  | 0, c, d, r => asSlot (first m ρ c d r)
  | s + 1, c, d, r => asSlot (truncf .bf16 (addLanded r (prod m ρ c d (Fin.ofNat 3 s)) (sentAt s (src d c) d r)) bitsLt_bf16_f32)

/-- What device `c` sends by transfer `t`. -/
def sent (c : Dev nD) (t : T) : Vec F S1x1x512x512 .bf16 := sentAt m ρ t.2.2.val c t.1 t.2.1

/-- What lands at device `c` by transfer `t`. -/
def landed (c : Dev nD) (t : T) : Vec F S1x1x512x512 .bf16 := sent m ρ (src t.1 c) t

/-- The tile of the result that device `c` computes from the last landed slot. -/
def outTile (c : Dev nD) (d : Bool) (r : Fin 2) : FVec F S512x512 .f32 := addLanded r (prod m ρ c d 2) (landed m ρ c (d, r, 2))

/-- Which rail a tile is. -/
def untile (j : Fin 4) : Bool × Fin 2 := match j with | 0 => (false, 0) | 1 => (false, 1) | 2 => (true, 0) | 3 => (true, 1)

theorem tile_untile (j : Fin 4) : tile (untile j).1 (untile j).2 = j := by revert j; decide

/-! ## The rectangles of a family are disjoint and cover -/

theorem outR_disjoint (j j' : Fin 4) (h : j ≠ j') : Disjoint (outR j).set (outR j').set :=
  Rect.unit_disjoint (1 : Fin 2) (by
    have h' : j.val ≠ j'.val := fun e => h (Fin.ext e)
    show 512 * j.val + 512 ≤ 512 * j'.val ∨ 512 * j'.val + 512 ≤ 512 * j.val
    omega)

theorem outR_cover : Finset.univ.biUnion (fun j => (outR j).set) = Finset.univ := by
  ext i
  simp only [Finset.mem_biUnion, Finset.mem_univ, true_and, iff_true]
  have h1 : (i (1 : Fin 2)).val < 2048 := (i (1 : Fin 2)).isLt
  refine ⟨⟨(i (1 : Fin 2)).val / 512, by omega⟩, Rect.mem_set_unit.mpr fun a => ?_⟩
  match a with
  | ⟨0, _⟩ => exact ⟨Nat.zero_le _, lt_of_lt_of_eq (i (0 : Fin 2)).isLt (Nat.zero_add 512).symm⟩
  | ⟨1, _⟩ =>
    show 512 * ((i (1 : Fin 2)).val / 512) ≤ (i (1 : Fin 2)).val ∧ (i (1 : Fin 2)).val < 512 * ((i (1 : Fin 2)).val / 512) + 512
    omega

theorem colsR_disjoint (j j' : Fin 4) (h : j ≠ j') : Disjoint (colsR j).set (colsR j').set :=
  Rect.unit_disjoint (1 : Fin 2) (by
    have h' : j.val ≠ j'.val := fun e => h (Fin.ext e)
    show 512 * j.val + 512 ≤ 512 * j'.val ∨ 512 * j'.val + 512 ≤ 512 * j.val
    omega)

theorem colsR_cover : Finset.univ.biUnion (fun j => (colsR j).set) = Finset.univ := by
  ext i
  simp only [Finset.mem_biUnion, Finset.mem_univ, true_and, iff_true]
  have h1 : (i (1 : Fin 2)).val < 2048 := (i (1 : Fin 2)).isLt
  refine ⟨⟨(i (1 : Fin 2)).val / 512, by omega⟩, Rect.mem_set_unit.mpr fun a => ?_⟩
  match a with
  | ⟨0, _⟩ => exact ⟨Nat.zero_le _, lt_of_lt_of_eq (i (0 : Fin 2)).isLt (Nat.zero_add 1024).symm⟩
  | ⟨1, _⟩ =>
    show 512 * ((i (1 : Fin 2)).val / 512) ≤ (i (1 : Fin 2)).val ∧ (i (1 : Fin 2)).val < 512 * ((i (1 : Fin 2)).val / 512) + 512
    omega

/-- The slots of a scratch array, as one family. -/
abbrev slotsR (p : Fin 2 × Fin 4) : Rect S2x4x512x512 := slotR p.1 p.2

theorem slotsR_disjoint (p p' : Fin 2 × Fin 4) (h : p ≠ p') : Disjoint (slotsR p).set (slotsR p').set := by
  by_cases h0 : p.1 = p'.1
  · have h1 : p.2.val ≠ p'.2.val := fun e => h (Prod.ext h0 (Fin.ext e))
    exact Rect.unit_disjoint (1 : Fin 4) (by show p.2.val + 1 ≤ p'.2.val ∨ p'.2.val + 1 ≤ p.2.val; omega)
  · have h1 : p.1.val ≠ p'.1.val := fun e => h0 (Fin.ext e)
    exact Rect.unit_disjoint (0 : Fin 4) (by show p.1.val + 1 ≤ p'.1.val ∨ p'.1.val + 1 ≤ p.1.val; omega)

theorem slotsR_cover : Finset.univ.biUnion (fun p => (slotsR p).set) = Finset.univ := by
  ext i
  simp only [Finset.mem_biUnion, Finset.mem_univ, true_and, iff_true]
  refine ⟨(i (0 : Fin 4), i (1 : Fin 4)), Rect.mem_set_unit.mpr fun a => ?_⟩
  match a with
  | ⟨0, _⟩ => exact ⟨le_refl _, Nat.lt_succ_self _⟩
  | ⟨1, _⟩ => exact ⟨le_refl _, Nat.lt_succ_self _⟩
  | ⟨2, _⟩ => exact ⟨Nat.zero_le _, lt_of_lt_of_eq (i (2 : Fin 4)).isLt (Nat.zero_add 512).symm⟩
  | ⟨3, _⟩ => exact ⟨Nat.zero_le _, lt_of_lt_of_eq (i (3 : Fin 4)).isLt (Nat.zero_add 512).symm⟩

/-- The result of device `c`: its four tiles put together. -/
def outAt (c : Dev nD) : (cc0_stg2_0 : Ref sig .tc).ty.Contents (Elt F) :=
  Rect.glue outR outR_cover (fun j => outTile m ρ c (untile j).1 (untile j).2)

theorem outAt_emb (c : Dev nD) (j : Fin 4) (k : (outR j).shape.Idx) :
    outAt m ρ c ((outR j).emb k) = outTile m ρ c (untile j).1 (untile j).2 k :=
  Rect.glue_emb outR outR_cover outR_disjoint _ j k

end Cert.KernelIdealProof
-- ==== Proof.KernelIdeal.Schedule.lean ====
/-
# `Schedule`: who pays which semaphore, with what, and in which order the waits stand

Every semaphore is raised in one round only. A device's barrier cell is raised by both neighbours, one unit each: the
neighbour in direction `d` hands over its slots that direction `d` lands in. A send cell is raised when the slot has
been read, and hands the slot back; a receive cell is raised when the tile has landed, and hands over the slot that
holds it. A device waits at its barrier while it owes all its transfers, and at the receive cell of step `s` while it
owes transfers of later steps only: so the levels are 1 for the barrier and `2 + s` for the receive cells of step `s`.
-/
module

public import proofs.«01_k».proof.Proof.KernelIdeal.Contents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The payloads -/

/-- Device `c` holds slot `j` of rail `r` of direction `d` with contents `Y`; with any contents. -/
def has (c : Dev nD) (d : Bool) (r : Fin 2) (j : Fin 4) (Y : Vec F S1x1x512x512 .bf16) : sProp 𝕄 :=
  owns (c : Thread nD τ) (slot d r j) fullShare Y
def hasAny (c : Dev nD) (d : Bool) (r : Fin 2) (j : Fin 4) : sProp 𝕄 := iprop(∃ Y, has c d r j Y)

instance has_storable (c : Dev nD) (d : Bool) (r : Fin 2) (j : Fin 4) (Y : Vec F S1x1x512x512 .bf16) :
    BI.Storable (upEmb : UEmb _ 𝕄) (has c d r j Y) := by unfold has; infer_instance
instance hasAny_storable (c : Dev nD) (d : Bool) (r : Fin 2) (j : Fin 4) :
    BI.Storable (upEmb : UEmb _ 𝕄) (hasAny (F := F) c d r j) := by unfold hasAny; infer_instance

/-- What the neighbour in direction `d` hands device `c` at the barrier: its slots that `c`'s transfers land in. -/
def barPay (c : Dev nD) (d : Bool) : sProp 𝕄 :=
  bigSep (Finset.univ : Finset (Fin 2 × Fin 3)) fun p => hasAny (F := F) (dst d c) d p.1 p.2.succ
/-- What a send cell hands back, and a receive cell over. -/
def sendPay (c : Dev nD) (t : T) : sProp 𝕄 := hasAny (F := F) c t.1 t.2.1 t.2.2.castSucc
def recvPay (c : Dev nD) (t : T) : sProp 𝕄 := has c t.1 t.2.1 t.2.2.succ (landed m ρ c t)

instance barPay_storable (c : Dev nD) (d : Bool) : BI.Storable (upEmb : UEmb _ 𝕄) (barPay (F := F) c d) := by
  unfold barPay; infer_instance
instance sendPay_storable (c : Dev nD) (t : T) : BI.Storable (upEmb : UEmb _ 𝕄) (sendPay (F := F) c t) := by
  unfold sendPay; infer_instance
instance recvPay_storable (c : Dev nD) (t : T) : BI.Storable (upEmb : UEmb _ 𝕄) (recvPay m ρ c t) := by
  unfold recvPay; infer_instance

/-! ## The schedule -/

/-- The duties of a cell, what they pay and with what, by the kind of cell. -/
def dutiesOf : Option CI → Finset Bool | none => ∅ | some none => Finset.univ | some (some _) => {false}
def amountOf : Option CI → ℕ | some none => 1 | _ => N
def payOf (c : Dev nD) (d : Bool) : Option CI → sProp 𝕄
  | none => iprop(emp)
  | some none => barPay c d
  | some (some (false, t)) => sendPay c t
  | some (some (true, t)) => recvPay m ρ c t

theorem amountOf_pos (i : Option CI) : 0 < amountOf i := by
  match i with
  | none => exact N_pos
  | some none => exact Nat.one_pos
  | some (some _) => exact N_pos

instance payOf_storable (c : Dev nD) (d : Bool) (i : Option CI) : BI.Storable (upEmb : UEmb _ 𝕄) (payOf m ρ c d i) := by
  match i with
  | none => unfold payOf; infer_instance
  | some none => unfold payOf; infer_instance
  | some (some (false, t)) => unfold payOf; infer_instance
  | some (some (true, t)) => unfold payOf; infer_instance

def ringRd : Rounds.Schedule (GSem nD τ sig) Bool 𝕄 where
  duties g r := if r = 0 ∧ g.1.2 = .tc then dutiesOf (dec g.2) else ∅
  unitless _ := False
  amount g _ _ := amountOf (dec g.2)
  payload g _ d := payOf m ρ g.1.1 d (dec g.2)
  amount_pos g _ _ _ := amountOf_pos _

instance ringRd_payload_storable (g : GSem nD τ sig) (r : ℕ) (d : Bool) :
    BI.Storable (upEmb : UEmb _ 𝕄) ((ringRd (F := F) m ρ).payload g r d) := by
  show BI.Storable upEmb (payOf m ρ g.1.1 d (dec g.2))
  infer_instance

section Tables
variable (c : Dev nD)

theorem duties_cell (i : CI) : (ringRd (F := F) m ρ).duties (kcell c i) 0 = dutiesOf (some i) := by
  dsimp only [ringRd]
  rw [if_pos ⟨rfl, rfl⟩, dec_csem]

theorem duties_later (g : GSem nD τ sig) : ∀ r, 1 ≤ r → (ringRd (F := F) m ρ).duties g r = ∅ :=
  fun r hr => by dsimp only [ringRd]; exact if_neg fun h => by omega

theorem amount_cell (i : CI) (d : Bool) : (ringRd (F := F) m ρ).amount (kcell c i) 0 d = amountOf (some i) := by
  dsimp only [ringRd]
  rw [dec_csem]

theorem payload_cell (i : CI) (d : Bool) : (ringRd (F := F) m ρ).payload (kcell c i) 0 d = payOf m ρ c d (some i) := by
  dsimp only [ringRd]
  rw [dec_csem]

theorem expect_bar : (ringRd (F := F) m ρ).expect (barCell c) 0 = 2 := by
  unfold Schedule.expect Schedule.amountOf
  rw [duties_cell, Finset.sum_congr rfl fun d _ => amount_cell m ρ c none d]
  rfl

theorem expect_xfer (i : Bool × T) : (ringRd (F := F) m ρ).expect (kcell c (some i)) 0 = N := by
  unfold Schedule.expect Schedule.amountOf
  rw [duties_cell, Finset.sum_congr rfl fun d _ => amount_cell m ρ c (some i) d]
  exact Finset.sum_singleton _ _

/-- What the wait at a barrier cell yields: both neighbours' slots. -/
theorem rest_bar : bigSep ((ringRd (F := F) m ρ).duties (barCell c) 0 \ ∅) (fun d => (ringRd (F := F) m ρ).payload (barCell c) 0 d)
    = bigSep Finset.univ (fun d => barPay (F := F) c d) := by
  rw [Finset.sdiff_empty, duties_cell]
  exact bigSep_congr fun d _ => payload_cell m ρ c none d

/-- What the wait at a send or receive cell yields. -/
theorem rest_xfer (i : Bool × T) : bigSep ((ringRd (F := F) m ρ).duties (kcell c (some i)) 0 \ ∅) (fun d => (ringRd (F := F) m ρ).payload (kcell c (some i)) 0 d)
    = payOf m ρ c false (some (some i)) := by
  rw [Finset.sdiff_empty, duties_cell]
  show bigSep {false} _ = _
  rw [bigSep_singleton, payload_cell]

end Tables

/-! ## What a device owes -/

/-- What is owed of the transfers from the `n`th on. -/
def oweFrom (c : Dev nD) (n : ℕ) : CellTallies nD τ sig Unit :=
  ∑ t ∈ (Finset.univ : Finset T).filter (n ≤ num ·), tallyAt (recvCell (dst t.1 c) t) () N

/-- The transfers from the `n`th on are the `n`th and those after it. -/
theorem from_insert (t : T) : (Finset.univ : Finset T).filter (num t ≤ num ·) = insert t ((Finset.univ : Finset T).filter (num t + 1 ≤ num ·)) := by
  ext x
  simp only [Finset.mem_filter, Finset.mem_univ, true_and, Finset.mem_insert]
  constructor
  · intro h
    rcases Nat.lt_or_ge (num t) (num x) with h' | h'
    · exact .inr h'
    · exact .inl (num_inj (le_antisymm h' h))
  · rintro (rfl | h)
    · exact le_refl _
    · omega

theorem from_not_mem (t : T) : t ∉ (Finset.univ : Finset T).filter (num t + 1 ≤ num ·) := by
  simp only [Finset.mem_filter, Finset.mem_univ, true_and, not_le]
  exact Nat.lt_succ_self _

theorem oweFrom_take (c : Dev nD) (t : T) : oweFrom c (num t) = oweFrom c (num t + 1) + tallyAt (recvCell (dst t.1 c) t) () N := by
  unfold oweFrom
  rw [from_insert, Finset.sum_insert (from_not_mem t), add_comm]

theorem oweFrom_end (c : Dev nD) : oweFrom c 12 = 0 := by
  unfold oweFrom
  rw [Finset.filter_false_of_mem fun t _ => Nat.not_le.mpr (num_lt t), Finset.sum_empty]

theorem oweFrom_apply (c : Dev nD) (n : ℕ) (g : GSem nD τ sig) (u : Unit) :
    oweFrom c n g u = ∑ t ∈ (Finset.univ : Finset T).filter (n ≤ num ·), tallyAt (recvCell (dst t.1 c) t) () N g u := by
  unfold oweFrom
  rw [Finset.sum_apply, Finsupp.finset_sum_apply]

theorem oweFrom_pos {c : Dev nD} {n : ℕ} {g : GSem nD τ sig} {u : Unit} (h : 0 < oweFrom c n g u) :
    ∃ t, n ≤ num t ∧ g = recvCell (dst t.1 c) t := by
  rw [oweFrom_apply] at h
  by_contra hn
  refine absurd h (Nat.not_lt.mpr (le_of_eq (Finset.sum_eq_zero fun t ht => ?_)))
  rw [tallyAt_apply]
  exact if_neg fun h' => hn ⟨t, (Finset.mem_filter.mp ht).2, h'.1⟩

/-- What device `c` owes at launch: all its transfers and a signal to each neighbour, the first to the device before. -/
def O₁ (c : Dev nD) : CellTallies nD τ sig Unit := oweFrom c 0 + tallyAt (barCell (nxt c)) () 1
def O₀ (c : Dev nD) : CellTallies nD τ sig Unit := O₁ c + tallyAt (barCell (prv c)) () 1

theorem O₀_apply (c : Dev nD) (g : GSem nD τ sig) (u : Unit) :
    O₀ c g u = oweFrom c 0 g u + tallyAt (barCell (nxt c)) () 1 g u + tallyAt (barCell (prv c)) () 1 g u := rfl

/-! ## Levels -/

def L (g : GSem nD τ sig) : Finset Unit := if g.1.2 = .tc then {()} else ∅
def lvOf : Option CI → ℕ | some none => 1 | some (some (true, t)) => 2 + t.2.2.val | _ => 0
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CI) (u : Unit) : lv (kcell c i) u = lvOf (some i) := by
  unfold lv; rw [dec_csem]

/-- A device may wait at a semaphore of its own below the level of everything it owes. -/
theorem mayWait_of (c : Dev nD) (sm : SemLoc sig) (k : ℕ) (O : CellTallies nD τ sig Unit)
    (hk : lv ((c : Thread nD τ), sm) () ≤ k) (hO : ∀ g u, 0 < O g u → ∃ e i, g = kcell e i ∧ k < lvOf (some i)) :
    (levAts L lv : sProp 𝕄) ⊢ MayWait (c : Thread nD τ) sm () O :=
  MayOwe.of_cut (L := L) (lev := lv) k
    (fun p hp => by rw [Finset.mem_singleton.mp hp, L_tc]; exact Finset.mem_singleton_self _)
    (fun g u hg => by obtain ⟨e, i, rfl, -⟩ := hO g u hg; exact Finset.mem_singleton_self _)
    (fun p hp => by rw [Finset.mem_singleton.mp hp]; exact hk)
    (fun g u hg => by obtain ⟨e, i, rfl, h⟩ := hO g u hg; rw [lv_cell]; exact h)

theorem O₀_pos {c : Dev nD} {g : GSem nD τ sig} {u : Unit} (hg : 0 < O₀ c g u) : ∃ e i, g = kcell e i ∧ 0 < lvOf (some i) := by
  rw [O₀_apply, tallyAt_apply, tallyAt_apply] at hg
  by_cases h1 : g = barCell (prv c) ∧ u = ()
  · refine ⟨prv c, none, h1.1, ?_⟩
    unfold lvOf; decide
  by_cases h2 : g = barCell (nxt c) ∧ u = ()
  · refine ⟨nxt c, none, h2.1, ?_⟩
    unfold lvOf; decide
  rw [if_neg h1, if_neg h2, Nat.add_zero] at hg
  obtain ⟨t, -, ht⟩ := oweFrom_pos hg
  refine ⟨dst t.1 c, some (true, t), ht, ?_⟩
  show 0 < 2 + t.2.2.val
  omega

/-- At a staging semaphore it may wait from the start. -/
theorem mayWait_stage (c : Dev nD) (sm : SemLoc sig) (h : dec sm = none) :
    (levAts L lv : sProp 𝕄) ⊢ MayWait (c : Thread nD τ) sm () (O₀ c) :=
  mayWait_of c sm 0 _ (by unfold lv; rw [h]; exact le_refl _) fun g u hg => O₀_pos hg

/-- At its barrier it may wait owing all its transfers, -/
theorem mayWait_bar (c : Dev nD) : (levAts L lv : sProp 𝕄) ⊢ MayWait (c : Thread nD τ) (.reg barS) () (oweFrom c 0) :=
  mayWait_of c (csem none) 1 _ (le_of_eq (lv_cell c none ())) fun g u hg => by
    obtain ⟨t, -, ht⟩ := oweFrom_pos hg
    exact ⟨dst t.1 c, some (true, t), ht, by show 1 < 2 + t.2.2.val; omega⟩

/-- at a send cell whatever transfers it owes, -/
theorem mayWait_send (c : Dev nD) (t : T) (n : ℕ) : (levAts L lv : sProp 𝕄) ⊢ MayWait (c : Thread nD τ) (csem (some (false, t))) () (oweFrom c n) :=
  mayWait_of c _ 0 _ (le_of_eq (lv_cell c _ ())) fun g u hg => by
    obtain ⟨x, -, hx⟩ := oweFrom_pos hg
    exact ⟨dst x.1 c, some (true, x), hx, by show 0 < 2 + x.2.2.val; omega⟩

/-- and at a receive cell owing transfers of later steps only. -/
theorem mayWait_recv (c : Dev nD) (t : T) (n : ℕ) (hn : 4 * (t.2.2.val + 1) ≤ n) :
    (levAts L lv : sProp 𝕄) ⊢ MayWait (c : Thread nD τ) (csem (some (true, t))) () (oweFrom c n) :=
  mayWait_of c _ (2 + t.2.2.val) _ (le_of_eq (lv_cell c _ ())) fun g u hg => by
    obtain ⟨x, hx, hg⟩ := oweFrom_pos hg
    refine ⟨dst x.1 c, some (true, x), hg, ?_⟩
    have h1 := num_step x
    show 2 + t.2.2.val < 2 + x.2.2.val
    omega

end Cert.KernelIdealProof
-- ==== Proof.KernelIdeal.Steps.lean ====
/-
# `Steps`: one lemma for each kind of step that the body takes

The body is a sequence of loads, stores, two signals, one wait at the barrier, and for every transfer a start and two
waits. Each kind of step is proved here once, for every transfer, slot and tile. Between the steps a device holds the
transfers still to be started (`Todo`), those that are complete (`Done`), what it owes (`owing`), and for each
transfer in flight its credits (`flying`).
-/
module

public import proofs.«01_k».proof.Proof.KernelIdeal.Schedule

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What is shared by all devices: the cells' invariants, their first round, the levels -/

def records (K : Dev nD × CI → ℕ) : sProp 𝕄 :=
  iprop((bigSep Finset.univ fun ck : Dev nD × CI => cellInv ER (ringRd m ρ) (K ck) (kcell ck.1 ck.2))
    ∗ (bigSep Finset.univ fun ck : Dev nD × CI => reached ER (kcell ck.1 ck.2) 0)
    ∗ levAts L lv)

instance records_persistent (K : Dev nD × CI → ℕ) : BI.Persistent (records m ρ K) := by unfold records; infer_instance

variable (K : Dev nD × CI → ℕ)

theorem inv_at (c : Dev nD) (i : CI) : records m ρ K ⊢ cellInv ER (ringRd m ρ) (K (c, i)) (kcell c i) := by
  unfold records
  iintro ⟨H, -, -⟩
  iapply (show (bigSep Finset.univ fun ck : Dev nD × CI => cellInv ER (ringRd m ρ) (K ck) (kcell ck.1 ck.2) : sProp 𝕄)
    ⊢ cellInv ER (ringRd m ρ) (K (c, i)) (kcell c i) from bigSep_elim (Finset.mem_univ (c, i)))
  iexact H

theorem reached_at (c : Dev nD) (i : CI) : records m ρ K ⊢ reached ER (kcell c i) 0 := by
  unfold records
  iintro ⟨-, H, -⟩
  iapply (show (bigSep Finset.univ fun ck : Dev nD × CI => reached ER (kcell ck.1 ck.2) 0 : sProp 𝕄)
    ⊢ reached ER (kcell c i) 0 from bigSep_elim (Finset.mem_univ (c, i)))
  iexact H

theorem levs_at : records m ρ K ⊢ levAts L lv := by
  unfold records
  iintro ⟨-, -, H⟩
  iexact H

/-! ## What a device holds of its transfers -/

/-- For transfer `t`: the tokens of the two duties that it pays, the places at the two cells that `c` waits at, and the
    credit of the one that a neighbour pays. -/
def grant (c : Dev nD) (t : T) : sProp 𝕄 :=
  iprop((dutyTok ER (sendCell c t) 0 false ∗ dutyTok ER (recvCell (dst t.1 c) t) 0 false)
    ∗ (atPos ER (sendCell c t) 0 ∅ 0 ∗ atPos ER (recvCell c t) 0 ∅ 0) ∗ cred (tallyAt (recvCell c t) () N))

/-- A transfer to be started: that, and the slot that it lands in. -/
def todo (c : Dev nD) (t : T) : sProp 𝕄 := iprop(hasAny (F := F) (dst t.1 c) t.1 t.2.1 t.2.2.succ ∗ grant c t)

/-- A transfer that is under way; one whose slot is back; one whose tile has come too. -/
def flying (c : Dev nD) (t : T) : sProp 𝕄 :=
  iprop((atPos ER (sendCell c t) 0 ∅ 0 ∗ atPos ER (recvCell c t) 0 ∅ 0) ∗ cred (tallyAt (recvCell c t) () N) ∗ cred (tallyAt (sendCell c t) () N))
def halfway (c : Dev nD) (t : T) : sProp 𝕄 :=
  iprop((semVal (sendCell c t) 0 ∗ hasAny (F := F) c t.1 t.2.1 t.2.2.castSucc) ∗ atPos ER (recvCell c t) 0 ∅ 0 ∗ cred (tallyAt (recvCell c t) () N))
def fin (c : Dev nD) (t : T) : sProp 𝕄 :=
  iprop((semVal (sendCell c t) 0 ∗ hasAny (F := F) c t.1 t.2.1 t.2.2.castSucc) ∗ semVal (recvCell c t) 0)

/-- The transfers to be started from the `n`th on; those before the `n`th, all complete. -/
def Todo (c : Dev nD) (n : ℕ) : sProp 𝕄 := bigSep ((Finset.univ : Finset T).filter (n ≤ num ·)) (todo (F := F) c)
def Done (c : Dev nD) (n : ℕ) : sProp 𝕄 := bigSep ((Finset.univ : Finset T).filter (num · < n)) (fin (F := F) c)

/-- Device `c` owes the transfers from the `n`th on. -/
def owing (c : Dev nD) (n : ℕ) : sProp 𝕄 := iprop(∃ W, owes (c : Thread nD τ) (oweFrom c n) W)

theorem Todo_take (c : Dev nD) (t : T) : Todo (F := F) c (num t) ⊢ iprop(todo (F := F) c t ∗ Todo (F := F) c (num t + 1)) := by
  unfold Todo
  rw [from_insert]
  exact Entails.of_eq (BI.bigSep_insert (from_not_mem t))

theorem Done_add (c : Dev nD) (t : T) : iprop(fin (F := F) c t ∗ Done (F := F) c (num t)) ⊢ Done (F := F) c (num t + 1) := by
  unfold Done
  have h : (Finset.univ : Finset T).filter (num · < num t + 1) = insert t ((Finset.univ : Finset T).filter (num · < num t)) := by
    ext x
    simp only [Finset.mem_filter, Finset.mem_univ, true_and, Finset.mem_insert]
    constructor
    · intro h
      rcases Nat.lt_or_ge (num x) (num t) with h' | h'
      · exact .inr h'
      · exact .inl (num_inj (by omega))
    · rintro (rfl | h) <;> omega
  rw [h]
  exact Entails.of_eq (BI.bigSep_insert (by simp)).symm

theorem Done_zero (c : Dev nD) : (emp : sProp 𝕄) ⊢ Done (F := F) c 0 := by
  unfold Done
  rw [Finset.filter_false_of_mem fun t _ => Nat.not_lt_zero _, bigSep_empty]
  exact .rfl

theorem Done_all (c : Dev nD) : Done (F := F) c 12 = bigSep Finset.univ (fin (F := F) c) := by
  unfold Done
  rw [Finset.filter_true_of_mem fun t _ => num_lt t]

/-! ## Starting a transfer -/

/-- A slot seen as a tile is the slot: it holds the same elements, -/
theorem slotSq_set (d : Bool) (r : Fin 2) (j : Fin 4) : (slotSq d r j).view.set = (slot d r j).view.set := View.set_reshape _ _

/-- and a tile written into it by a transfer from another slot is that slot's contents. -/
theorem slotSq_write (d : Bool) (r : Fin 2) (j j' : Fin 4) (fs : (slotSq d r j).view.ty.Contents (Elt F)) (fd : (slotSq d r j').view.ty.Contents (Elt F)) :
    (slot d r j').view.read (Elt F) ((slotSq d r j').view.write (Elt F) fd ((slotSq d r j).view.read (Elt F) fs) Finset.univ)
      = (slot d r j).view.read (Elt F) fs := by
  have h := View.read_write_univ (v := (slotSq d r j').view) (Val := Elt F) fd ((slotSq d r j).view.read (Elt F) fs)
  have hn : S512x512.numel = S1x1x512x512.numel := squeezes_S1x1x512x512_S512x512.numel_eq
  have h' : ∀ x : S512x512.Idx, (slot d r j').view.read (Elt F) ((slotSq d r j').view.write (Elt F) fd ((slotSq d r j).view.read (Elt F) fs) Finset.univ) (Shape.reshapeEquiv hn x)
      = (slot d r j).view.read (Elt F) fs (Shape.reshapeEquiv hn x) := fun x => congrFun h x
  funext y
  have := h' ((Shape.reshapeEquiv hn).symm y)
  rwa [Equiv.apply_symm_apply] at this

theorem slotSq_credit (d : Bool) (r : Fin 2) (j : Fin 4) : (slotSq d r j).view.dmaCredit = N := by
  cases d <;> rfl

set_option maxHeartbeats 800000 in
/-- The start of transfer `t` by device `c`, addressed to `n`, its neighbour. -/
theorem wp_xfer (c n : Dev nD) (t : T) (k : ℕ) (hk : k = num t) (hn : n = dst t.1 c) (q p : DmaSem sig) (hq : q = sendS t) (hp : p = recvS t)
    {hsc : (slotSq t.1 t.2.1 t.2.2.succ : Memref sig (Dev.tc n : Thread nD τ).2.kind .vmem S512x512 .bf16).view.ref.isScScratch = false}
    {hsrc : (slotSq t.1 t.2.1 t.2.2.castSucc).view.WordExact} {hdst : (slotSq t.1 t.2.1 t.2.2.succ).view.WordExact}
    {hsem : DmaTarget.Typed .vmem (.dma p) (.remote (Dev.tc n : Thread nD τ) (slotSq t.1 t.2.1 t.2.2.succ : Memref sig .tc .vmem S512x512 .bf16) (.dma q) hsc)}
    {α : Type _} {Q : α → sProp 𝕄} {kt : PUnit → Prog (TpuEff nD τ sig (Elt F) Λ₀ .tc) α} :
    iprop(records m ρ K ∗ has c t.1 t.2.1 t.2.2.castSucc (sent m ρ c t) ∗ Todo (F := F) c k ∗ owing (F := F) c k)
      ⊢ iprop(((flying (F := F) c t ∗ Todo (F := F) c (k + 1) ∗ owing (F := F) c (k + 1))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (slotSq t.1 t.2.1 t.2.2.castSucc) (.remote (Dev.tc n : Thread nD τ) (slotSq t.1 t.2.1 t.2.2.succ) (.dma q) hsc) (.dma p) hsrc hdst hsem) kt) Q) := by
  subst hk hn hq hp
  have hsend : (SemLoc.dma (sendS t) : SemLoc sig) = csem (some (false, t)) := rfl
  have hrecv : (SemLoc.dma (recvS t) : SemLoc sig) = csem (some (true, t)) := rfl
  unfold owing
  iintro ⟨#HR, Hs, HT, ⟨%W, HO⟩⟩ Hk
  ihave HT' := (Todo_take (F := F) c t) $$ HT
  unfold todo grant
  icases HT' with ⟨⟨Hd, ⟨HtS, HtV⟩, Hat, HcV⟩, HT⟩
  unfold has hasAny has owns
  icases Hs with ⟨%fs, %hfs, Hs⟩
  icases Hd with ⟨%Y, %fd, -, Hd⟩
  iapply (Rounds.wp_send_pointsTo 𝒱₀ ER (ringRd m ρ) (c : Thread nD τ) none (κ₁ := K (c, some (false, t))) (κ₂ := K (dst t.1 c, some (true, t)))
    (c' := (dst t.1 c : Thread nD τ)) (src := slotSq t.1 t.2.1 t.2.2.castSucc) (dst := slotSq t.1 t.2.1 t.2.2.succ)
    (sS := .dma (sendS t)) (sem := .dma (recvS t))
    (r₁ := 0) (r₂ := 0) (d₁ := false) (d₂ := false) (fs := fs) (fd := fd) (q := fullShare)
    (by rw [hsend]; exact (duties_cell m ρ c (some (false, t))).symm ▸ Finset.mem_singleton_self _)
    (by rw [hrecv]; exact (duties_cell m ρ (dst t.1 c) (some (true, t))).symm ▸ Finset.mem_singleton_self _)
    () () N (slotSq_credit _ _ _)
    (amount_cell m ρ c (some (false, t)) false) (amount_cell m ρ (dst t.1 c) (some (true, t)) false)
    (oweFrom c (num t + 1)) (oweFrom_take c t) (W := W)
    (by
      rw [hsend, payload_cell m ρ c (some (false, t)) false]
      show _ ⊢ sendPay c t
      unfold sendPay hasAny has owns
      iintro H
      iexists ((slot t.1 t.2.1 t.2.2.castSucc).view.read (Elt F) fs), fs
      isplitr; · (ipureintro; rfl)
      rw [slotSq_set]
      iexact H)
    (by
      rw [hrecv, payload_cell m ρ (dst t.1 c) (some (true, t)) false]
      show _ ⊢ recvPay m ρ (dst t.1 c) t
      unfold recvPay has owns
      iintro H
      iexists _
      isplitr
      rotate_left
      · rw [slotSq_set]
        iexact H
      · ipureintro
        exact (slotSq_write t.1 t.2.1 t.2.2.castSucc t.2.2.succ fs fd).trans (hfs.trans (by rw [landed, src_dst])))) $$ [Hs Hd HO HtS HtV]
  · isplitr; · iapply (inv_at m ρ K c (some (false, t))); iexact HR
    isplitr; · iapply (inv_at m ρ K (dst t.1 c) (some (true, t))); iexact HR
    isplitl [Hs]; · rw [slotSq_set]; iexact Hs
    isplitl [Hd]; · rw [slotSq_set]; iexact Hd
    isplitl [HO]; · iexact HO
    isplitl [HtS]; · iexact HtS
    isplitr; · iapply (reached_at m ρ K c (some (false, t))); iexact HR
    isplitl [HtV]; · iexact HtV
    iapply (reached_at m ρ K (dst t.1 c) (some (true, t))); iexact HR
  iintro ⟨HcS, HO⟩
  iapply Hk
  isplitl [Hat HcV HcS]
  · unfold flying
    isplitl [Hat]; · iexact Hat
    isplitl [HcV]; · iexact HcV
    iexact HcS
  isplitl [HT]; · iexact HT
  iexists _; iexact HO

/-- The wait at a send or receive cell. -/
theorem wp_await (c : Dev nD) (i : Bool × T) (k : ℕ) (sm : DmaSem sig) (hsm : SemLoc.dma sm = osem i)
    (hw : ∀ O, O = oweFrom c k → ((levAts L lv : sProp 𝕄) ⊢ MayWait (c : Thread nD τ) (osem i) () O))
    {sp sp' : Space} {s : Shape} {e : EltTy}
    {src : Memref sig .tc sp s e} {dst : Memref sig .tc sp' s e} {hsrc : src.view.WordExact} {hdst : dst.view.WordExact} (hN : dst.view.dmaCredit = N)
    {α : Type _} {Q : α → sProp 𝕄} {kt : PUnit → Prog (TpuEff nD τ sig (Elt F) Λ₀ .tc) α} :
    iprop(records m ρ K ∗ owing (F := F) c k ∗ atPos ER (kcell c (some i)) 0 ∅ 0 ∗ cred (tallyAt (kcell c (some i)) () N))
      ⊢ iprop(((owing (F := F) c k ∗ semVal (kcell c (some i)) 0 ∗ payOf m ρ c false (some (some i)))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm src dst hsrc hdst) kt) Q) := by
  unfold owing
  iintro ⟨#HR, ⟨%W, HO⟩, Hat, Hc⟩ Hk
  have hcs : osem i = csem (some i) := rfl
  iapply (Rounds.wp_wait_rest_token 𝒱₀ ER (ringRd m ρ) (c : Thread nD τ) none (κ := K (c, some i)) (sm := csem (some i)) (k' := N)
      (by rw [← hcs, ← hsm, ← hN]; exact wpE_waitDma2_eq 𝒱₀ (c : Thread nD τ) none Set.univ) (Set.mem_univ _) () (O := oweFrom c k) (W := W) (R := 0) (m := 0) (T := ∅)
      (by rw [Nat.zero_add, expect_xfer])) $$ [Hc HO Hat]
  · isplitr; · iapply (inv_at m ρ K c (some i)); iexact HR
    isplitl [Hc]; · iexact Hc
    isplitl [HO]; · iexact HO
    isplitr; · iapply (hw _ rfl); iapply (levs_at m ρ K); iexact HR
    iexact Hat
  iintro ⟨HO, Hat, -, Hpay⟩
  ihave Hp := (Entails.of_eq (rest_xfer m ρ c i)) $$ Hpay
  imod (Rounds.cell_close ER (ringRd m ρ) (Set.mem_univ (K (c, some i))) (fun h => h) (R := 0 + 1) (duties_later m ρ (kcell c (some i)))) $$ [Hat] with Hz
  · isplitr; · iapply (inv_at m ρ K c (some i)); iexact HR
    iexact Hat
  iapply Hk
  isplitl [HO]; · (iexists _; iexact HO)
  isplitl [Hz]; · iexact Hz
  iexact Hp

/-- The wait for a slot that a transfer has read: the slot is back. -/
theorem wp_sent (c : Dev nD) (t : T) (k : ℕ) (sm : DmaSem sig) (hsm : sm = sendS t)
    {sp sp' : Space} {s : Shape} {e : EltTy}
    {src : Memref sig .tc sp s e} {dst : Memref sig .tc sp' s e} {hsrc : src.view.WordExact} {hdst : dst.view.WordExact} (hN : dst.view.dmaCredit = N)
    {α : Type _} {Q : α → sProp 𝕄} {kt : PUnit → Prog (TpuEff nD τ sig (Elt F) Λ₀ .tc) α} :
    iprop(records m ρ K ∗ owing (F := F) c k ∗ flying (F := F) c t)
      ⊢ iprop(((owing (F := F) c k ∗ halfway (F := F) c t)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm src dst hsrc hdst) kt) Q) := by
  unfold flying
  iintro ⟨#HR, HO, ⟨⟨HaS, HaV⟩, HcV, HcS⟩⟩ Hk
  iapply (wp_await m ρ K c (false, t) k sm (by rw [hsm]; rfl) (fun O hO => hO ▸ mayWait_send c t k) hN) $$ [HO HaS HcS]
  · isplitr; · iexact HR
    isplitl [HO]; · iexact HO
    isplitl [HaS] <;> iassumption
  iintro ⟨HO, Hz, Hp⟩
  ihave Hp := (show payOf m ρ c false (some (some (false, t))) ⊢ hasAny (F := F) c t.1 t.2.1 t.2.2.castSucc from .rfl) $$ Hp
  iapply Hk
  unfold halfway
  isplitl [HO]; · iexact HO
  isplitl [Hz Hp]
  · isplitl [Hz]; · iexact Hz
    iexact Hp
  isplitl [HaV] <;> iassumption

/-- The wait for the tile that a transfer brings: the slot that it has landed in. -/
theorem wp_landed (c : Dev nD) (t : T) (k : ℕ) (hk : 4 * (t.2.2.val + 1) ≤ k) (n : ℕ) (hn : n = num t) (sm : DmaSem sig) (hsm : sm = recvS t)
    {sp sp' : Space} {s : Shape} {e : EltTy}
    {src : Memref sig .tc sp s e} {dst : Memref sig .tc sp' s e} {hsrc : src.view.WordExact} {hdst : dst.view.WordExact} (hN : dst.view.dmaCredit = N)
    {α : Type _} {Q : α → sProp 𝕄} {kt : PUnit → Prog (TpuEff nD τ sig (Elt F) Λ₀ .tc) α} :
    iprop(records m ρ K ∗ owing (F := F) c k ∗ Done (F := F) c n ∗ halfway (F := F) c t)
      ⊢ iprop(((owing (F := F) c k ∗ Done (F := F) c (n + 1) ∗ has c t.1 t.2.1 t.2.2.succ (landed m ρ c t))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm src dst hsrc hdst) kt) Q) := by
  subst hn
  unfold halfway
  iintro ⟨#HR, HO, HD, ⟨Hhalf, HaV, HcV⟩⟩ Hk
  iapply (wp_await m ρ K c (true, t) k sm (by rw [hsm]; rfl) (fun O hO => hO ▸ mayWait_recv c t k hk) hN) $$ [HO HaV HcV]
  · isplitr; · iexact HR
    isplitl [HO]; · iexact HO
    isplitl [HaV] <;> iassumption
  iintro ⟨HO, Hz, Hp⟩
  ihave Hp := (show payOf m ρ c false (some (some (true, t))) ⊢ has c t.1 t.2.1 t.2.2.succ (landed m ρ c t) from .rfl) $$ Hp
  iapply Hk
  isplitl [HO]; · iexact HO
  isplitl [Hhalf Hz HD]
  · iapply (Done_add (F := F) c t)
    isplitl [Hhalf Hz]
    · unfold fin
      isplitl [Hhalf] <;> iassumption
    iexact HD
  iexact Hp

/-! ## The barrier -/

/-- Device `c`'s slots that direction `d` lands in. -/
def mine (c : Dev nD) (d : Bool) : sProp 𝕄 :=
  bigSep (Finset.univ : Finset (Fin 2 × Fin 3)) fun p => hasAny (F := F) c d p.1 p.2.succ

theorem barPay_src (c : Dev nD) (d : Bool) : barPay (F := F) (src d c) d = mine (F := F) c d := by
  unfold barPay mine
  rw [dst_src]

/-- The signal to the device that `c` receives from in direction `d`: the slots to land in go with it. -/
theorem wp_ready (c n : Dev nD) (d : Bool) (hn : n = src d c) (k' : ℕ) (hk' : k' = 1) (O : CellTallies nD τ sig Unit) (W : Waits sig Unit)
    {α : Type _} {Q : α → sProp 𝕄} {kt : PUnit → Prog (TpuEff nD τ sig (Elt F) Λ₀ .tc) α} :
    iprop(records m ρ K ∗ owes (c : Thread nD τ) (O + tallyAt (barCell (src d c)) () 1) W ∗ dutyTok ER (barCell (src d c)) 0 d ∗ mine (F := F) c d)
      ⊢ iprop((owes (c : Thread nD τ) O W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (Dev.tc n : Thread nD τ) barS k') kt) Q) := by
  subst hn hk'
  iintro ⟨#HR, HO, Ht, Hm⟩ Hk
  iapply (Rounds.wp_signal 𝒱₀ ER (ringRd m ρ) (c : Thread nD τ) none (dst := (src d c : Thread nD τ)) (κ := K (src d c, none))
      (d := d) (r := 0) (sem := barS) ((duties_cell m ρ (src d c) none).symm ▸ Finset.mem_univ _) (amount_cell m ρ (src d c) none d) () O rfl)
    $$ [HO Ht Hm]
  · isplitr; · iapply (inv_at m ρ K (src d c) none); iexact HR
    isplitl [HO]; · iexact HO
    isplitl [Ht]; · iexact Ht
    isplitl [Hm]
    · rw [show (ringRd m ρ).payload ((src d c : Thread nD τ), SemLoc.reg barS) 0 d = mine (F := F) c d from
        (payload_cell m ρ (src d c) none d).trans (barPay_src c d)]
      iexact Hm
    iapply (reached_at m ρ K (src d c) none); iexact HR
  iexact Hk

/-- The wait at the barrier: both neighbours' slots. -/
theorem wp_barrier (c : Dev nD) (k' : ℕ) (hk' : k' = 2)
    {α : Type _} {Q : α → sProp 𝕄} {kt : PUnit → Prog (TpuEff nD τ sig (Elt F) Λ₀ .tc) α} :
    iprop(records m ρ K ∗ owing (F := F) c 0 ∗ atPos ER (barCell c) 0 ∅ 0 ∗ cred (tallyAt (barCell c) () 2))
      ⊢ iprop(((owing (F := F) c 0 ∗ semVal (barCell c) 0 ∗ bigSep Finset.univ (fun d => barPay (F := F) c d))
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS k') kt) Q) := by
  subst hk'
  unfold owing
  iintro ⟨#HR, ⟨%W, HO⟩, Hat, Hc⟩ Hk
  iapply (Rounds.wp_wait_rest_token 𝒱₀ ER (ringRd m ρ) (c : Thread nD τ) none (κ := K (c, none)) (sm := csem none) (k' := 2)
      (wpE_semWait_eq 𝒱₀ (c : Thread nD τ) none Set.univ) (Set.mem_univ _) () (O := oweFrom c 0) (W := W) (R := 0) (m := 0) (T := ∅)
      (by rw [Nat.zero_add, expect_bar])) $$ [Hc HO Hat]
  · isplitr; · iapply (inv_at m ρ K c none); iexact HR
    isplitl [Hc]; · iexact Hc
    isplitl [HO]; · iexact HO
    isplitr; · iapply (mayWait_bar c); iapply (levs_at m ρ K); iexact HR
    iexact Hat
  iintro ⟨HO, Hat, -, Hpay⟩
  ihave Hp := (Entails.of_eq (rest_bar m ρ c)) $$ Hpay
  imod (Rounds.cell_close ER (ringRd m ρ) (Set.mem_univ (K (c, none))) (fun h => h) (R := 0 + 1) (duties_later m ρ (kcell c none))) $$ [Hat] with Hz
  · isplitr; · iapply (inv_at m ρ K c none); iexact HR
    iexact Hat
  iapply Hk
  isplitl [HO]; · (iexists _; iexact HO)
  isplitl [Hz]; · iexact Hz
  iexact Hp

/-- With the neighbours' slots every transfer can be started. -/
theorem Todo_intro (c : Dev nD) :
    iprop((bigSep Finset.univ fun d => barPay (F := F) c d) ∗ bigSep Finset.univ fun t : T => grant (F := F) c t) ⊢ Todo (F := F) c 0 := by
  unfold Todo todo barPay
  rw [Finset.filter_true_of_mem fun t _ => Nat.zero_le _, bigSep_sep',
    bigSep_univ_prod (fun t : T => hasAny (F := F) (dst t.1 c) t.1 t.2.1 t.2.2.succ)]

/-! ## Loads and stores -/

section Memory
variable {sp : CoreSpace} {s : Shape} {e : EltTy} (M : Memref sig .tc sp s e) (r : Rect s) (hr : ∀ a, r.stride a = 1)

/-- A load through a rectangle whose elements are held as a memref yields their contents. -/
theorem wp_load_part (c : Dev nD) (Y : r.shape.Idx → Elt F e) {hl : M.view.LoadsAt r.toLoadRect}
    {α : Type _} {Q : α → sProp 𝕄} {kt : (r.shape.Idx → Elt F e) → Prog (TpuEff nD τ sig (Elt F) Λ₀ .tc) α} :
    owns (c : Thread nD τ) (M.slice r hr) fullShare Y
      ⊢ iprop((owns (c : Thread nD τ) (M.slice r hr) fullShare Y -∗ wp frame (wpE (defs₀ (F := F)) 𝒱₀ (c : Thread nD τ) none) Set.univ (kt Y) Q)
          -∗ wp frame (wpE (defs₀ (F := F)) 𝒱₀ (c : Thread nD τ) none) Set.univ (.op (.load M r.toLoadRect hl) kt) Q) := by
  unfold owns
  iintro ⟨%f, %hf, H⟩ Hk
  iapply (wp_load_rect 𝒱₀ (c : Thread nD τ) none Set.univ (m := M) (r := r) (S := (M.slice r hr).view.set) (Finset.Subset.refl _)) $$ H
  iintro H
  rw [show (M.access r).read (Elt F) f = Y from hf]
  iapply Hk
  iexists f
  isplitr; · (ipureintro; exact hf)
  iexact H

/-- A store through it leaves the contents stored. -/
theorem wp_store_part (c : Dev nD) (Y w : r.shape.Idx → Elt F e) {hx : (M.access r).Stores Finset.univ} {hm : (Finset.univ : Finset r.shape.Idx) = Finset.univ ∨ ∀ a, r.stride a = 1}
    {α : Type _} {Q : α → sProp 𝕄} {kt : PUnit → Prog (TpuEff nD τ sig (Elt F) Λ₀ .tc) α} :
    owns (c : Thread nD τ) (M.slice r hr) fullShare Y
      ⊢ iprop((owns (c : Thread nD τ) (M.slice r hr) fullShare w -∗ wp frame (wpE (defs₀ (F := F)) 𝒱₀ (c : Thread nD τ) none) Set.univ (kt ⟨⟩) Q)
          -∗ wp frame (wpE (defs₀ (F := F)) 𝒱₀ (c : Thread nD τ) none) Set.univ (.op (.store M r w Finset.univ hx hm) kt) Q) := by
  unfold owns
  iintro ⟨%f, %hf, H⟩ Hk
  iapply (wp_store 𝒱₀ (c : Thread nD τ) none Set.univ (m := M) (r := r) (S := (M.slice r hr).view.set) (Finset.Subset.refl _)) $$ H
  iintro H
  iapply Hk
  iexists _
  isplitr
  rotate_left
  · iexact H
  · ipureintro
    exact View.read_write_univ _ _

end Memory

end Cert.KernelIdealProof
-- ==== Proof.KernelIdeal.Moves.lean ====
/-
# `Moves`: the rules of `Steps` as the body uses them

Each rule takes the resources of one operation one after the other and hands them back together. `ledger c k n` is the
account of device `c`'s transfers: the first `k` are started, the first `n` complete.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- What it takes to run a program of device `c`'s thread so that `Q` holds of its value. -/
abbrev run (c : Dev nD) {α : Type _} (P : Prog (TpuEff nD τ sig (Elt F) Λ₀ .tc) α) (Q : α → sProp 𝕄) : sProp 𝕄 :=
  wp frame (wpE (defs₀ (F := F)) 𝒱₀ (c : Thread nD τ) none) Set.univ P Q

theorem run_ret (c : Dev nD) {α : Type _} (a : α) (Q : α → sProp 𝕄) : Q a ⊢ run c (.ret a) Q := by
  show Q a ⊢ wp frame (wpE (defs₀ (F := F)) 𝒱₀ (c : Thread nD τ) none) Set.univ (.ret a) Q
  rw [wp_ret]
  iintro H
  imodintro
  iexact H

theorem run_yield (c : Dev nD) {α : Type _} (a v : α) (h : a = v) (Q : α → sProp 𝕄) : Q v ⊢ run c (.ret a) Q := by
  subst h
  exact run_ret c a Q

/-- The account of device `c`'s transfers: those before the `k`th are started, those before the `n`th complete. -/
def ledger (c : Dev nD) (k n : ℕ) : sProp 𝕄 :=
  iprop(records m ρ K ∗ Todo (F := F) c k ∗ owing (F := F) c k ∗ Done (F := F) c n)

/-- Start a transfer. -/
theorem move_send (c : Dev nD) (d : Bool) (r : Fin 2) (s : Fin 3) (j j' : Fin 4) (hj : s.castSucc = j) (hj' : s.succ = j') (k k' n : ℕ)
    (hk : num (d, r, s) = k) (hk' : num (d, r, s) + 1 = k') (i : Dev nD) (hi : i = dst d c) (q p : DmaSem sig)
    (hq : q = sendS (d, r, s)) (hp : p = recvS (d, r, s))
    {hsc : (slotSq d r j' : Memref sig (Dev.tc i : Thread nD τ).2.kind .vmem S512x512 .bf16).view.ref.isScScratch = false}
    {hsrc : (slotSq d r j).view.WordExact} {hdst : (slotSq d r j').view.WordExact}
    {hsem : DmaTarget.Typed .vmem (.dma p) (.remote (Dev.tc i : Thread nD τ) (slotSq d r j' : Memref sig .tc .vmem S512x512 .bf16) (.dma q) hsc)}
    {α : Type _} {Q : α → sProp 𝕄} {kt : PUnit → Prog (TpuEff nD τ sig (Elt F) Λ₀ .tc) α} :
    ledger m ρ K c k n ⊢ iprop(has c d r j (sent m ρ c (d, r, s))
      -∗ ((ledger m ρ K c k' n ∗ flying (F := F) c (d, r, s)) -∗ run c (kt ⟨⟩) Q)
      -∗ run c (.op (.enqueueDma (slotSq d r j) (.remote (Dev.tc i : Thread nD τ) (slotSq d r j') (.dma q) hsc) (.dma p) hsrc hdst hsem) kt) Q) := by
  subst hj hj' hk hk'
  unfold ledger
  iintro ⟨#HR, HT, HO, HD⟩ Hs Hk
  iapply (wp_xfer m ρ K c i (d, r, s) (num (d, r, s)) rfl hi q p hq hp) $$ [HT HO Hs]
  · isplitr; · iexact HR
    isplitl [Hs]; · iexact Hs
    isplitl [HT] <;> iassumption
  iintro ⟨HF, HT, HO⟩
  iapply Hk
  isplitr [HF]
  · isplitr; · iexact HR
    isplitl [HT]; · iexact HT
    isplitl [HO] <;> iassumption
  iexact HF

/-- Wait for the slot that a transfer has read. -/
theorem move_sent (c : Dev nD) (t : T) (k n : ℕ) (sm : DmaSem sig) (hsm : sm = sendS t)
    {sp sp' : Space} {s : Shape} {e : EltTy}
    {src : Memref sig .tc sp s e} {dst : Memref sig .tc sp' s e} {hsrc : src.view.WordExact} {hdst : dst.view.WordExact} (hN : dst.view.dmaCredit = N)
    {α : Type _} {Q : α → sProp 𝕄} {kt : PUnit → Prog (TpuEff nD τ sig (Elt F) Λ₀ .tc) α} :
    ledger m ρ K c k n ⊢ iprop(flying (F := F) c t
      -∗ ((ledger m ρ K c k n ∗ halfway (F := F) c t) -∗ run c (kt ⟨⟩) Q) -∗ run c (.op (.waitDma2 sm src dst hsrc hdst) kt) Q) := by
  unfold ledger
  iintro ⟨#HR, HT, HO, HD⟩ HF Hk
  iapply (wp_sent m ρ K c t k sm hsm hN) $$ [HO HF]
  · isplitr; · iexact HR
    isplitl [HO] <;> iassumption
  iintro ⟨HO, HF⟩
  iapply Hk
  isplitr [HF]
  · isplitr; · iexact HR
    isplitl [HT]; · iexact HT
    isplitl [HO] <;> iassumption
  iexact HF

/-- Wait for the tile that a transfer brings. -/
theorem move_landed (c : Dev nD) (d : Bool) (r : Fin 2) (s : Fin 3) (j : Fin 4) (hj : s.succ = j) (k n n' : ℕ) (hk : 4 * (s.val + 1) ≤ k)
    (hn : num (d, r, s) = n) (hn' : num (d, r, s) + 1 = n') (sm : DmaSem sig) (hsm : sm = recvS (d, r, s))
    {sp sp' : Space} {sh : Shape} {e : EltTy}
    {src : Memref sig .tc sp sh e} {dst : Memref sig .tc sp' sh e} {hsrc : src.view.WordExact} {hdst : dst.view.WordExact} (hN : dst.view.dmaCredit = N)
    {α : Type _} {Q : α → sProp 𝕄} {kt : PUnit → Prog (TpuEff nD τ sig (Elt F) Λ₀ .tc) α} :
    ledger m ρ K c k n ⊢ iprop(halfway (F := F) c (d, r, s)
      -∗ ((ledger m ρ K c k n' ∗ has c d r j (landed m ρ c (d, r, s))) -∗ run c (kt ⟨⟩) Q) -∗ run c (.op (.waitDma2 sm src dst hsrc hdst) kt) Q) := by
  subst hj hn hn'
  unfold ledger
  iintro ⟨#HR, HT, HO, HD⟩ HF Hk
  iapply (wp_landed m ρ K c (d, r, s) k hk (num (d, r, s)) rfl sm hsm hN) $$ [HO HD HF]
  · isplitr; · iexact HR
    isplitl [HO]; · iexact HO
    isplitl [HD] <;> iassumption
  iintro ⟨HO, HD, HF⟩
  iapply Hk
  isplitr [HF]
  · isplitr; · iexact HR
    isplitl [HT]; · iexact HT
    isplitl [HO] <;> iassumption
  iexact HF

/-! ## Loads and stores of the buffers -/

/-- A load from a memref that is held with contents `X`. -/
theorem move_load_from {sp : CoreSpace} {s : Shape} {e : EltTy} (M : Memref sig .tc sp s e) (r : Rect s) (c : Dev nD) (X : s.Idx → Elt F e)
    (Y : r.shape.Idx → Elt F e) (hY : ∀ j, X (r.emb j) = Y j) {hl : M.view.LoadsAt r.toLoadRect}
    {α : Type _} {Q : α → sProp 𝕄} {kt : (r.shape.Idx → Elt F e) → Prog (TpuEff nD τ sig (Elt F) Λ₀ .tc) α} :
    owns (c : Thread nD τ) M fullShare X
      ⊢ iprop((owns (c : Thread nD τ) M fullShare X -∗ run c (kt Y) Q) -∗ run c (.op (.load M r.toLoadRect hl) kt) Q) := by
  unfold owns
  iintro ⟨%f, %hf, H⟩ Hk
  iapply (wp_load_rect 𝒱₀ (c : Thread nD τ) none Set.univ (m := M) (r := r) (S := M.view.set) (View.set_slice_subset _ _)) $$ H
  iintro H
  rw [show (M.access r).read (Elt F) f = Y from funext fun j => (congrFun hf (r.emb j)).trans (hY j)]
  iapply Hk
  iexists f
  isplitr; · (ipureintro; exact hf)
  iexact H

/-- A load of row block `k` of A. -/
theorem move_rows (c k : Dev nD) (off : Fin 2 → ℕ) (hoff : off = ![512 * k.val, 0]) {hin : ∀ a, off a + S512x1024.size a ≤ S2048x1024.size a}
    {hl : aM.view.LoadsAt (Rect.unit (s := S2048x1024) off S512x1024.size hin).toLoadRect}
    {α : Type _} {Q : α → sProp 𝕄} {kt : Vec F S512x1024 .bf16 → Prog (TpuEff nD τ sig (Elt F) Λ₀ .tc) α} :
    owns (c : Thread nD τ) aM fullShare (xA m ρ c)
      ⊢ iprop((owns (c : Thread nD τ) aM fullShare (xA m ρ c) -∗ run c (kt (aRows m ρ c k)) Q)
        -∗ run c (.op (.load aM (Rect.unit (s := S2048x1024) off S512x1024.size hin).toLoadRect hl) kt) Q) := by
  subst hoff
  exact move_load_from aM (rowsR k) c (xA m ρ c) (aRows m ρ c k) fun _ => rfl

/-- A load of the columns of tile `j` of B, -/
theorem move_cols (c : Dev nD) (j : Fin 4) {hl : bM.view.LoadsAt (colsR j).toLoadRect}
    {α : Type _} {Q : α → sProp 𝕄} {kt : Vec F S1024x512 .bf16 → Prog (TpuEff nD τ sig (Elt F) Λ₀ .tc) α} :
    owns (c : Thread nD τ) bM fullShare (xB m ρ c)
      ⊢ iprop((owns (c : Thread nD τ) bM fullShare (xB m ρ c) -∗ run c (kt (bCols m ρ c j)) Q)
        -∗ run c (.op (.load bM (colsR j).toLoadRect hl) kt) Q) :=
  move_load_from bM (colsR j) c (xB m ρ c) (bCols m ρ c j) fun _ => rfl

/-- and of half `h` of B from the scratch copy. -/
theorem move_half (c : Dev nD) (h : Fin 2) {hl : kM.view.LoadsAt (halfR h).toLoadRect}
    {α : Type _} {Q : α → sProp 𝕄} {kt : Vec F S1024x1024 .bf16 → Prog (TpuEff nD τ sig (Elt F) Λ₀ .tc) α} :
    owns (c : Thread nD τ) kM fullShare (xB m ρ c)
      ⊢ iprop((owns (c : Thread nD τ) kM fullShare (xB m ρ c) -∗ run c (kt (bHalf m ρ c h)) Q)
        -∗ run c (.op (.load kM (halfR h).toLoadRect hl) kt) Q) :=
  move_load_from kM (halfR h) c (xB m ρ c) (bHalf m ρ c h) fun _ => rfl

/-- Tile `j` of the scratch copy of B, and of the result, with contents `Y`. -/
def copied (c : Dev nD) (j : Fin 4) (Y : Vec F S1024x512 .bf16) : sProp 𝕄 := owns (c : Thread nD τ) (kM.slice (colsR j) fun _ => rfl) fullShare Y
def result (c : Dev nD) (j : Fin 4) (Y : Vec F S512x512 .f32) : sProp 𝕄 := owns (c : Thread nD τ) (oM.slice (outR j) fun _ => rfl) fullShare Y

theorem load_copied (c : Dev nD) (j : Fin 4) (Y : Vec F S1024x512 .bf16) {hl : kM.view.LoadsAt (colsR j).toLoadRect}
    {α : Type _} {Q : α → sProp 𝕄} {kt : Vec F S1024x512 .bf16 → Prog (TpuEff nD τ sig (Elt F) Λ₀ .tc) α} :
    copied c j Y ⊢ iprop((copied c j Y -∗ run c (kt Y) Q) -∗ run c (.op (.load kM (colsR j).toLoadRect hl) kt) Q) :=
  wp_load_part kM (colsR j) (fun _ => rfl) c Y

theorem store_copied (c : Dev nD) (j : Fin 4) (Y w w' : Vec F S1024x512 .bf16) (hw : w' = w) {hx : (kM.access (colsR j)).Stores Finset.univ}
    {hm : (Finset.univ : Finset (colsR j).shape.Idx) = Finset.univ ∨ ∀ a, (colsR j).stride a = 1}
    {α : Type _} {Q : α → sProp 𝕄} {kt : PUnit → Prog (TpuEff nD τ sig (Elt F) Λ₀ .tc) α} :
    copied c j Y ⊢ iprop((copied c j w -∗ run c (kt ⟨⟩) Q) -∗ run c (.op (.store kM (colsR j) w' Finset.univ hx hm) kt) Q) := by
  subst hw
  exact wp_store_part kM (colsR j) (fun _ => rfl) c Y w'

theorem load_result (c : Dev nD) (j : Fin 4) (Y : Vec F S512x512 .f32) {hl : oM.view.LoadsAt (outR j).toLoadRect}
    {α : Type _} {Q : α → sProp 𝕄} {kt : Vec F S512x512 .f32 → Prog (TpuEff nD τ sig (Elt F) Λ₀ .tc) α} :
    result c j Y ⊢ iprop((result c j Y -∗ run c (kt Y) Q) -∗ run c (.op (.load oM (outR j).toLoadRect hl) kt) Q) :=
  wp_load_part oM (outR j) (fun _ => rfl) c Y

theorem store_result (c : Dev nD) (j : Fin 4) (Y w w' : Vec F S512x512 .f32) (hw : w' = w) {hx : (oM.access (outR j)).Stores Finset.univ}
    {hm : (Finset.univ : Finset (outR j).shape.Idx) = Finset.univ ∨ ∀ a, (outR j).stride a = 1}
    {α : Type _} {Q : α → sProp 𝕄} {kt : PUnit → Prog (TpuEff nD τ sig (Elt F) Λ₀ .tc) α} :
    result c j Y ⊢ iprop((result c j w -∗ run c (kt ⟨⟩) Q) -∗ run c (.op (.store oM (outR j) w' Finset.univ hx hm) kt) Q) := by
  subst hw
  exact wp_store_part oM (outR j) (fun _ => rfl) c Y w'

theorem load_slot (c : Dev nD) (d : Bool) (r : Fin 2) (j : Fin 4) (Y : Vec F S1x1x512x512 .bf16) {hl : (comm d).view.LoadsAt (slotR r j).toLoadRect}
    {α : Type _} {Q : α → sProp 𝕄} {kt : Vec F S1x1x512x512 .bf16 → Prog (TpuEff nD τ sig (Elt F) Λ₀ .tc) α} :
    has c d r j Y ⊢ iprop((has c d r j Y -∗ run c (kt Y) Q) -∗ run c (.op (.load (comm d) (slotR r j).toLoadRect hl) kt) Q) :=
  wp_load_part (comm d) (slotR r j) (fun _ => rfl) c Y

theorem store_slot (c : Dev nD) (d : Bool) (r : Fin 2) (j : Fin 4) (Y w w' : Vec F S1x1x512x512 .bf16) (hw : w' = w)
    {hx : ((comm d).access (slotR r j)).Stores Finset.univ} {hm : (Finset.univ : Finset (slotR r j).shape.Idx) = Finset.univ ∨ ∀ a, (slotR r j).stride a = 1}
    {α : Type _} {Q : α → sProp 𝕄} {kt : PUnit → Prog (TpuEff nD τ sig (Elt F) Λ₀ .tc) α} :
    has c d r j Y ⊢ iprop((has c d r j w -∗ run c (kt ⟨⟩) Q) -∗ run c (.op (.store (comm d) (slotR r j) w' Finset.univ hx hm) kt) Q) := by
  subst hw
  exact wp_store_part (comm d) (slotR r j) (fun _ => rfl) c Y w'

end Cert.KernelIdealProof
-- ==== Proof.KernelIdeal.Opening.lean ====
/-
# `Opening`: the first stretch of the body, up to the first wait for a transfer

Parts 1 to 5 of the body copy B to the scratch buffer tile by tile, multiply each tile with a row block of A, meet the
neighbours at the barrier, start the four first transfers and compute the two products of step 0. Each theorem states
what one part takes and what it leaves.
-/
module

public import proofs.«01_k».proof.Proof.KernelIdeal.Moves
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- A part of the body at the kernel's buffers and semaphores. -/
abbrev onBuffers {α : Type 1} (p : (arg0 : Memref sig .tc .vmem S2048x1024 .bf16) → arg0.IsWhole → (arg1 : Memref sig .tc .vmem S1024x2048 .bf16) → arg1.IsWhole
    → (arg2 : Memref sig .tc .vmem S512x2048 .f32) → arg2.IsWhole → (arg3 : Memref sig .tc .vmem S2x4x512x512 .bf16) → arg3.IsWhole
    → (arg4 : Memref sig .tc .vmem S2x4x512x512 .bf16) → arg4.IsWhole → (arg5 : Memref sig .tc .vmem S1024x2048 .bf16) → arg5.IsWhole
    → DmaSems sig S2x3 → DmaSems sig S2x3 → DmaSems sig S2x3 → DmaSems sig S2x3 → α) : α :=
  p (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6

/-- Device `c`'s place on the ring, the next one's and the one before's, as the program computes them. -/
abbrev place (c : Dev nD) : BitVec 32 := Scalar.remsi (Scalar.divsi (Dev.word c) 1#32) 4#32
abbrev after (c : Dev nD) : BitVec 32 := Scalar.remsi (Scalar.addi (place c) 1#32) 4#32
abbrev before (c : Dev nD) : BitVec 32 := Scalar.remsi (Scalar.subi (Scalar.addi (place c) 4#32) 1#32) 4#32

/-- Reshapings that change nothing. -/
theorem pay2_eq (x : Vec F S512x1024 .bf16) : k0_pay2 x = x := shapeCast_self _ _
theorem pay3_eq (x : Vec F S512x1024 .bf16) : k0_pay3 x = x := shapeCast_self _ _
theorem pay4_eq (x : Vec F S1024x512 .bf16) : k0_pay4 x = x := (shapeCast_self _ _).trans (shapeCast_self _ _)
theorem pay7_eq (x : Vec F S1024x512 .bf16) : k0_pay7 x = x := (shapeCast_self _ _).trans (shapeCast_self _ _)
theorem pay10_eq (x : Vec F S1024x512 .bf16) : k0_pay10 x = x := (shapeCast_self _ _).trans (shapeCast_self _ _)
theorem pay12_eq (x : Vec F S1024x512 .bf16) : k0_pay12 x = x := (shapeCast_self _ _).trans (shapeCast_self _ _)

theorem pay5_eq (c : Dev nD) : k0_pay5 (aRows m ρ c (firstRows false c)) (bCols m ρ c 0) = first m ρ c false 0 := by
  unfold k0_pay5
  rw [pay2_eq]
  rfl

theorem dev1_eq (c : Dev nD) : (⟨k0_dev1 c, k0_dev1_lt c⟩ : Dev nD) = src false c := Fin.ext (k0_dev1_eq c)
theorem dev2_eq (c : Dev nD) : (⟨k0_dev2 c, k0_dev2_lt c⟩ : Dev nD) = src true c := Fin.ext (k0_dev2_eq c)

/-- Part 1 reads the two row blocks of A, copies the first tile of B and computes the first product. -/
theorem part1 (c : Dev nD) (Y : Vec F S1024x512 .bf16) (Z : Vec F S1x1x512x512 .bf16)
    (Q : (Σ' (_ : Dev nD) (_ : BitVec 32) (_ : BitVec 32) (_ : BitVec 32) (_ : FVec F S512x1024 .bf16) (_ : FVec F S512x1024 .bf16), FVec F S512x512 .bf16) → sProp 𝕄) :
    iprop((owns (c : Thread nD τ) aM fullShare (xA m ρ c) ∗ owns (c : Thread nD τ) bM fullShare (xB m ρ c) ∗ copied c 0 Y ∗ has c false 0 0 Z)
      ∗ ((owns (c : Thread nD τ) aM fullShare (xA m ρ c) ∗ owns (c : Thread nD τ) bM fullShare (xB m ρ c) ∗ copied c 0 (bCols m ρ c 0) ∗ has c false 0 0 Z)
        -∗ Q ⟨c, place c, after c, before c, aRows m ρ c (firstRows false c), aRows m ρ c (firstRows true c), first m ρ c false 0⟩))
      ⊢ run c (onBuffers (k0_part1 (F := F))) Q := by
  unfold onBuffers
  rw [k0_part1_eq_skeleton]; unfold k0_part1_skel
  simp only [Prog.lift, Prog.bind_op, Prog.bind_ret, Prog.pure_eq_ret, wp_deviceId]
  iintro ⟨⟨HA, HB, HK, HS⟩, Hk⟩
  iapply (move_rows m ρ c (firstRows false c) (k0_off1 c) (k0_off1_eq c)) $$ HA; iintro HA
  iapply (move_rows m ρ c (firstRows true c) (k0_off2 c) (k0_off2_eq c)) $$ HA; iintro HA
  iapply (move_cols m ρ c 0) $$ HB; iintro HB
  iapply (load_copied c 0) $$ HK; iintro HK
  iapply (store_copied c 0 _ (bCols m ρ c 0) _ (pay4_eq _)) $$ HK; iintro HK
  iapply (load_copied c 0) $$ HK; iintro HK
  iapply (load_slot c false 0 0) $$ HS; iintro HS
  rw [pay2_eq, pay3_eq, pay5_eq]
  iapply (run_ret c)
  iapply Hk
  isplitl [HA]; · iexact HA
  isplitl [HB]; · iexact HB
  isplitl [HK] <;> iassumption

/-- What device `c` brings to the barrier: what it owes, the tokens of its two signals, its slots to land in, its place
    and credit there, and what its transfers will need. -/
def gate (c : Dev nD) : sProp 𝕄 :=
  iprop(records m ρ K ∗ (∃ W, owes (c : Thread nD τ) (O₀ c) W)
    ∗ ((dutyTok ER (barCell (src false c)) 0 false ∗ mine (F := F) c false) ∗ (dutyTok ER (barCell (src true c)) 0 true ∗ mine (F := F) c true))
    ∗ (atPos ER (barCell c) 0 ∅ 0 ∗ cred (tallyAt (barCell c) () 2)) ∗ bigSep Finset.univ fun t : T => grant (F := F) c t)

/-- Part 2 meets the neighbours at the barrier and starts the first transfer. -/
theorem part2 (c : Dev nD) (v4 v7 : BitVec 32) (Y : Vec F S1024x512 .bf16) (Z : Vec F S1x1x512x512 .bf16) (Q : FVec F S512x512 .bf16 → sProp 𝕄) :
    iprop((gate m ρ K c ∗ owns (c : Thread nD τ) bM fullShare (xB m ρ c) ∗ copied c 2 Y ∗ has c false 0 0 Z)
      ∗ ((ledger m ρ K c 1 0 ∗ semVal (barCell c) 0 ∗ owns (c : Thread nD τ) bM fullShare (xB m ρ c) ∗ copied c 2 (bCols m ρ c 2) ∗ flying (F := F) c (false, 0, 0))
        -∗ Q (first m ρ c true 0)))
      ⊢ run c (onBuffers (k0_part2 (F := F)) c v4 v7 (aRows m ρ c (firstRows true c)) (first m ρ c false 0)) Q := by
  unfold onBuffers
  rw [k0_part2_eq_skeleton]; unfold k0_part2_skel
  simp only [semSignalWord, semWaitWord, Prog.lift, Prog.bind_op, Prog.bind_ret, Prog.pure_eq_ret]
  unfold gate
  iintro ⟨⟨⟨#HR, ⟨%W, HO⟩, ⟨⟨Ht₁, Hm₁⟩, ⟨Ht₂, Hm₂⟩⟩, ⟨Hat, Hc⟩, HG⟩, HB, HK, HS⟩, Hk⟩
  iapply (store_slot c false 0 0 _ (sent m ρ c (false, 0, 0)) _ rfl) $$ HS; iintro HS
  iapply (wp_ready m ρ K c _ false (dev1_eq c) _ (by decide) (O₁ c) W) $$ [HO Ht₁ Hm₁]
  · isplitr; · iexact HR
    isplitl [HO]; · iexact HO
    isplitl [Ht₁] <;> iassumption
  iintro HO
  iapply (wp_ready m ρ K c _ true (dev2_eq c) _ (by decide) (oweFrom c 0) W) $$ [HO Ht₂ Hm₂]
  · isplitr; · iexact HR
    isplitl [HO]; · iexact HO
    isplitl [Ht₂] <;> iassumption
  iintro HO
  iapply (wp_barrier m ρ K c _ (by decide)) $$ [HO Hat Hc]
  · isplitr; · iexact HR
    isplitl [HO]; · (unfold owing; iexists W; iexact HO)
    isplitl [Hat] <;> iassumption
  iintro ⟨HO, Hz, Hp⟩
  ihave HL : ledger m ρ K c 0 0 $$ [HO Hp HG]
  · unfold ledger
    isplitr; · iexact HR
    isplitl [Hp HG]
    · iapply (Todo_intro (F := F) c)
      isplitl [Hp] <;> iassumption
    isplitl [HO]; · iexact HO
    iapply (Done_zero (F := F) c)
    iempintro
  iapply (move_send m ρ K c false 0 0 0 1 rfl rfl 0 1 0 rfl rfl _ (Fin.ext (k0_dev3_eq c)) _ _ rfl rfl) $$ HL HS; iintro ⟨HL, HF⟩
  iapply (move_cols m ρ c 2) $$ HB; iintro HB
  iapply (load_copied c 2) $$ HK; iintro HK
  iapply (store_copied c 2 _ (bCols m ρ c 2) _ (pay7_eq _)) $$ HK; iintro HK
  iapply (load_copied c 2) $$ HK; iintro HK
  iapply (run_yield c _ (first m ρ c true 0) rfl)
  iapply Hk
  isplitl [HL]; · iexact HL
  isplitl [Hz]; · iexact Hz
  isplitl [HB]; · iexact HB
  isplitl [HK] <;> iassumption

/-- Part 3 starts the first transfer of the other direction, copies the second tile and computes its product. -/
theorem part3 (c : Dev nD) (v7 : BitVec 32) (Y : Vec F S1024x512 .bf16) (Z Z' : Vec F S1x1x512x512 .bf16) (Q : PUnit → sProp 𝕄) :
    iprop((ledger m ρ K c 1 0 ∗ owns (c : Thread nD τ) bM fullShare (xB m ρ c) ∗ copied c 1 Y ∗ has c true 0 0 Z ∗ has c false 1 0 Z')
      ∗ ((ledger m ρ K c 2 0 ∗ owns (c : Thread nD τ) bM fullShare (xB m ρ c) ∗ copied c 1 (bCols m ρ c 1) ∗ flying (F := F) c (true, 0, 0)
          ∗ has c false 1 0 (sent m ρ c (false, 1, 0))) -∗ Q ⟨⟩))
      ⊢ run c (onBuffers (k0_part3 (F := F)) c v7 (aRows m ρ c (firstRows false c)) (first m ρ c true 0)) Q := by
  unfold onBuffers
  rw [k0_part3_eq_skeleton]; unfold k0_part3_skel
  simp only [Prog.lift, Prog.bind_op, Prog.bind_ret, Prog.pure_eq_ret]
  iintro ⟨⟨HL, HB, HK, HS, HS'⟩, Hk⟩
  iapply (load_slot c true 0 0) $$ HS; iintro HS
  iapply (store_slot c true 0 0 _ (sent m ρ c (true, 0, 0)) _ rfl) $$ HS; iintro HS
  iapply (move_send m ρ K c true 0 0 0 1 rfl rfl 1 2 0 rfl rfl _ (Fin.ext (k0_dev4_eq c)) _ _ rfl rfl) $$ HL HS; iintro ⟨HL, HF⟩
  iapply (move_cols m ρ c 1) $$ HB; iintro HB
  iapply (load_copied c 1) $$ HK; iintro HK
  iapply (store_copied c 1 _ (bCols m ρ c 1) _ (pay10_eq _)) $$ HK; iintro HK
  iapply (load_copied c 1) $$ HK; iintro HK
  iapply (load_slot c false 1 0) $$ HS'; iintro HS'
  iapply (store_slot c false 1 0 _ (sent m ρ c (false, 1, 0)) _ rfl) $$ HS'; iintro HS'
  iapply (run_ret c)
  iapply Hk
  isplitl [HL]; · iexact HL
  isplitl [HB]; · iexact HB
  isplitl [HK]; · iexact HK
  isplitl [HF] <;> iassumption

/-- Part 4 starts the third transfer, copies the last tile and computes its product. -/
theorem part4 (c : Dev nD) (v4 v7 : BitVec 32) (Y : Vec F S1024x512 .bf16) (Z : Vec F S1x1x512x512 .bf16) (Q : PUnit → sProp 𝕄) :
    iprop((ledger m ρ K c 2 0 ∗ owns (c : Thread nD τ) bM fullShare (xB m ρ c) ∗ copied c 3 Y ∗ has c false 1 0 (sent m ρ c (false, 1, 0)) ∗ has c true 1 0 Z)
      ∗ ((ledger m ρ K c 3 0 ∗ owns (c : Thread nD τ) bM fullShare (xB m ρ c) ∗ copied c 3 (bCols m ρ c 3) ∗ flying (F := F) c (false, 1, 0)
          ∗ has c true 1 0 (sent m ρ c (true, 1, 0))) -∗ Q ⟨⟩))
      ⊢ run c (onBuffers (k0_part4 (F := F)) c v4 v7 (aRows m ρ c (firstRows true c))) Q := by
  unfold onBuffers
  rw [k0_part4_eq_skeleton]; unfold k0_part4_skel
  simp only [Prog.lift, Prog.bind_op, Prog.bind_ret, Prog.pure_eq_ret]
  iintro ⟨⟨HL, HB, HK, HS, HS'⟩, Hk⟩
  iapply (move_send m ρ K c false 1 0 0 1 rfl rfl 2 3 0 rfl rfl _ (Fin.ext (k0_dev5_eq c)) _ _ rfl rfl) $$ HL HS; iintro ⟨HL, HF⟩
  iapply (move_cols m ρ c 3) $$ HB; iintro HB
  iapply (load_copied c 3) $$ HK; iintro HK
  iapply (store_copied c 3 _ (bCols m ρ c 3) _ (pay12_eq _)) $$ HK; iintro HK
  iapply (load_copied c 3) $$ HK; iintro HK
  iapply (load_slot c true 1 0) $$ HS'; iintro HS'
  iapply (store_slot c true 1 0 _ (sent m ρ c (true, 1, 0)) _ rfl) $$ HS'; iintro HS'
  iapply (run_ret c)
  iapply Hk
  isplitl [HL]; · iexact HL
  isplitl [HB]; · iexact HB
  isplitl [HK]; · iexact HK
  isplitl [HF] <;> iassumption

/-- The row blocks that the steps read. -/
theorem off3_eq (c : Dev nD) (s : Fin 3) : k0_off3 c (BitVec.ofNat 32 s.val) = ![512 * (stepRows false c s).val, 0] := k0_off3_eq c s
theorem off4_eq (c : Dev nD) (s : Fin 3) : k0_off4 c (BitVec.ofNat 32 s.val) = ![512 * (stepRows true c s).val, 0] := k0_off4_eq c s

theorem pay14_eq (c : Dev nD) : k0_pay14 (aRows m ρ c (stepRows false c 0)) (bHalf m ρ c 0) = prod m ρ c false 0 := by
  unfold k0_pay14
  rw [shapeCast_self]
  rfl
theorem pay15_eq (c : Dev nD) : k0_pay15 (aRows m ρ c (stepRows true c 0)) (bHalf m ρ c 1) = prod m ρ c true 0 := by
  unfold k0_pay15
  rw [shapeCast_self]
  rfl

/-- Part 5 starts the fourth transfer and computes the two products of step 0. -/
theorem part5 (c : Dev nD) (v2 : BitVec 32) (Q : (Σ' (_ : FVec F S512x1024 .f32), FVec F S512x1024 .f32) → sProp 𝕄) :
    iprop((ledger m ρ K c 3 0 ∗ owns (c : Thread nD τ) aM fullShare (xA m ρ c) ∗ owns (c : Thread nD τ) kM fullShare (xB m ρ c) ∗ has c true 1 0 (sent m ρ c (true, 1, 0)))
      ∗ ((ledger m ρ K c 4 0 ∗ owns (c : Thread nD τ) aM fullShare (xA m ρ c) ∗ owns (c : Thread nD τ) kM fullShare (xB m ρ c) ∗ flying (F := F) c (true, 1, 0))
        -∗ Q ⟨prod m ρ c false 0, prod m ρ c true 0⟩))
      ⊢ run c (onBuffers (k0_part5 (F := F)) c v2) Q := by
  unfold onBuffers
  rw [k0_part5_eq_skeleton]; unfold k0_part5_skel
  simp only [Prog.lift, Prog.bind_op, Prog.bind_ret, Prog.pure_eq_ret]
  iintro ⟨⟨HL, HA, HK, HS⟩, Hk⟩
  iapply (move_send m ρ K c true 1 0 0 1 rfl rfl 3 4 0 rfl rfl _ (Fin.ext (k0_dev6_eq c)) _ _ rfl rfl) $$ HL HS; iintro ⟨HL, HF⟩
  iapply (move_rows m ρ c (stepRows false c 0) (k0_off3 c 0#32) (off3_eq c 0)) $$ HA; iintro HA
  iapply (move_half m ρ c 0) $$ HK; iintro HK
  iapply (move_rows m ρ c (stepRows true c 0) (k0_off4 c 0#32) (off4_eq c 0)) $$ HA; iintro HA
  iapply (move_half m ρ c 1) $$ HK; iintro HK
  rw [pay14_eq, pay15_eq]
  iapply (run_ret c)
  iapply Hk
  isplitl [HL]; · iexact HL
  isplitl [HA]; · iexact HA
  isplitl [HK] <;> iassumption

end Cert.KernelIdealProof
-- ==== Proof.KernelIdeal.Turning.lean ====
/-
# `Turning`: the middle of the body, steps 0 and 1 of the ring

Parts 6 to 17 of the body. For each of the four rails they wait for the slot that was sent and for the tile that has
come, add the device's own product to that tile and send the sum on. Each theorem states what one part takes and leaves.
-/
module

public import proofs.«01_k».proof.Proof.KernelIdeal.Opening
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- The tile that has landed by transfer `(d, r, s)` with device `c`'s own product added. -/
def summed (c : Dev nD) (d : Bool) (r : Fin 2) (s : Fin 3) : FVec F S512x512 .bf16 :=
  truncf .bf16 (addLanded r (prod m ρ c d s) (landed m ρ c (d, r, s))) bitsLt_bf16_f32

theorem pay22_eq (c : Dev nD) : k0_pay22 (aRows m ρ c (stepRows false c 1)) (bHalf m ρ c 0) = prod m ρ c false 1 := by
  unfold k0_pay22
  rw [shapeCast_self]
  rfl
theorem pay23_eq (c : Dev nD) : k0_pay23 (aRows m ρ c (stepRows true c 1)) (bHalf m ρ c 1) = prod m ρ c true 1 := by
  unfold k0_pay23
  rw [shapeCast_self]
  rfl

theorem pay24_eq (c : Dev nD) : k0_pay24 (prod m ρ c false 1) (landed m ρ c (false, 0, 1)) = summed m ρ c false 0 1 := rfl

theorem part6 (c : Dev nD) (v4 : BitVec 32) (Q : PUnit → sProp 𝕄) :
    iprop((ledger m ρ K c 4 0 ∗ flying (F := F) c (false, 0, 0)) ∗ ((ledger m ρ K c 4 1 ∗ has c false 0 1 (sent m ρ c (false, 0, 1))) -∗ Q ⟨⟩))
      ⊢ run c (onBuffers (k0_part6 (F := F)) v4 (prod m ρ c false 0)) Q := by
  unfold onBuffers
  rw [k0_part6_eq_skeleton]; unfold k0_part6_skel
  simp only [Prog.lift, Prog.bind_op, Prog.bind_ret, Prog.pure_eq_ret]
  iintro ⟨⟨HL, HF⟩, Hk⟩
  iapply (move_sent m ρ K c (false, 0, 0) 4 0 _ rfl (slotSq_credit false 0 0)) $$ HL HF; iintro ⟨HL, HF⟩
  iapply (move_landed m ρ K c false 0 0 1 rfl 4 0 1 (by decide) rfl rfl _ rfl (slotSq_credit false 0 1)) $$ HL HF; iintro ⟨HL, HS⟩
  iapply (load_slot c false 0 1) $$ HS; iintro HS
  iapply (load_slot c false 0 1) $$ HS; iintro HS
  iapply (store_slot c false 0 1 _ (sent m ρ c (false, 0, 1)) _ rfl) $$ HS; iintro HS
  iapply (run_ret c)
  iapply Hk
  isplitl [HL] <;> iassumption

theorem part7 (c : Dev nD) (v7 : BitVec 32) (Q : FVec F S512x512 .f32 → sProp 𝕄) :
    iprop((ledger m ρ K c 4 1 ∗ has c false 0 1 (sent m ρ c (false, 0, 1)) ∗ flying (F := F) c (true, 0, 0))
      ∗ ((ledger m ρ K c 5 2 ∗ flying (F := F) c (false, 0, 1) ∗ has c true 0 1 (landed m ρ c (true, 0, 0))) -∗ Q (railOf 0 (prod m ρ c true 0))))
      ⊢ run c (onBuffers (k0_part7 (F := F)) c v7 (prod m ρ c true 0)) Q := by
  unfold onBuffers
  rw [k0_part7_eq_skeleton]; unfold k0_part7_skel
  simp only [Prog.lift, Prog.bind_op, Prog.bind_ret, Prog.pure_eq_ret]
  iintro ⟨⟨HL, HS, HF⟩, Hk⟩
  iapply (move_send m ρ K c false 0 1 1 2 rfl rfl 4 5 1 rfl rfl _ (Fin.ext (k0_dev7_eq c)) _ _ rfl rfl) $$ HL HS; iintro ⟨HL, HF'⟩
  iapply (move_sent m ρ K c (true, 0, 0) 5 1 _ rfl (slotSq_credit true 0 0)) $$ HL HF; iintro ⟨HL, HF⟩
  iapply (move_landed m ρ K c true 0 0 1 rfl 5 1 2 (by decide) rfl rfl _ rfl (slotSq_credit true 0 1)) $$ HL HF; iintro ⟨HL, HS⟩
  iapply (run_yield c _ (railOf 0 (prod m ρ c true 0)) rfl)
  iapply Hk
  isplitl [HL]; · iexact HL
  isplitl [HF'] <;> iassumption

theorem part8 (c : Dev nD) (v7 : BitVec 32) (Q : PUnit → sProp 𝕄) :
    iprop((ledger m ρ K c 5 2 ∗ has c true 0 1 (landed m ρ c (true, 0, 0)) ∗ flying (F := F) c (false, 1, 0))
      ∗ ((ledger m ρ K c 6 2 ∗ flying (F := F) c (true, 0, 1) ∗ halfway (F := F) c (false, 1, 0)) -∗ Q ⟨⟩))
      ⊢ run c (onBuffers (k0_part8 (F := F)) c v7 (railOf 0 (prod m ρ c true 0))) Q := by
  unfold onBuffers
  rw [k0_part8_eq_skeleton]; unfold k0_part8_skel
  simp only [Prog.lift, Prog.bind_op, Prog.bind_ret, Prog.pure_eq_ret]
  iintro ⟨⟨HL, HS, HF⟩, Hk⟩
  iapply (load_slot c true 0 1) $$ HS; iintro HS
  iapply (load_slot c true 0 1) $$ HS; iintro HS
  iapply (store_slot c true 0 1 _ (sent m ρ c (true, 0, 1)) _ rfl) $$ HS; iintro HS
  iapply (move_send m ρ K c true 0 1 1 2 rfl rfl 5 6 2 rfl rfl _ (Fin.ext (k0_dev8_eq c)) _ _ rfl rfl) $$ HL HS; iintro ⟨HL, HF'⟩
  iapply (move_sent m ρ K c (false, 1, 0) 6 2 _ rfl (slotSq_credit false 1 0)) $$ HL HF; iintro ⟨HL, HF⟩
  iapply (run_ret c)
  iapply Hk
  isplitl [HL]; · iexact HL
  isplitl [HF'] <;> iassumption

theorem part9 (c : Dev nD) (v4 : BitVec 32) (Q : PUnit → sProp 𝕄) :
    iprop((ledger m ρ K c 6 2 ∗ halfway (F := F) c (false, 1, 0)) ∗ ((ledger m ρ K c 6 3 ∗ has c false 1 1 (sent m ρ c (false, 1, 1))) -∗ Q ⟨⟩))
      ⊢ run c (onBuffers (k0_part9 (F := F)) v4 (prod m ρ c false 0)) Q := by
  unfold onBuffers
  rw [k0_part9_eq_skeleton]; unfold k0_part9_skel
  simp only [Prog.lift, Prog.bind_op, Prog.bind_ret, Prog.pure_eq_ret]
  iintro ⟨⟨HL, HF⟩, Hk⟩
  iapply (move_landed m ρ K c false 1 0 1 rfl 6 2 3 (by decide) rfl rfl _ rfl (slotSq_credit false 1 1)) $$ HL HF; iintro ⟨HL, HS⟩
  iapply (load_slot c false 1 1) $$ HS; iintro HS
  iapply (load_slot c false 1 1) $$ HS; iintro HS
  iapply (store_slot c false 1 1 _ (sent m ρ c (false, 1, 1)) _ rfl) $$ HS; iintro HS
  iapply (run_ret c)
  iapply Hk
  isplitl [HL] <;> iassumption

theorem part10 (c : Dev nD) (v7 : BitVec 32) (Q : FVec F S512x512 .bf16 → sProp 𝕄) :
    iprop((ledger m ρ K c 6 3 ∗ has c false 1 1 (sent m ρ c (false, 1, 1)) ∗ flying (F := F) c (true, 1, 0))
      ∗ ((ledger m ρ K c 7 4 ∗ flying (F := F) c (false, 1, 1) ∗ has c true 1 1 (landed m ρ c (true, 1, 0))) -∗ Q (summed m ρ c true 1 0)))
      ⊢ run c (onBuffers (k0_part10 (F := F)) c v7 (prod m ρ c true 0)) Q := by
  unfold onBuffers
  rw [k0_part10_eq_skeleton]; unfold k0_part10_skel
  simp only [Prog.lift, Prog.bind_op, Prog.bind_ret, Prog.pure_eq_ret]
  iintro ⟨⟨HL, HS, HF⟩, Hk⟩
  iapply (move_send m ρ K c false 1 1 1 2 rfl rfl 6 7 3 rfl rfl _ (Fin.ext (k0_dev9_eq c)) _ _ rfl rfl) $$ HL HS; iintro ⟨HL, HF'⟩
  iapply (move_sent m ρ K c (true, 1, 0) 7 3 _ rfl (slotSq_credit true 1 0)) $$ HL HF; iintro ⟨HL, HF⟩
  iapply (move_landed m ρ K c true 1 0 1 rfl 7 3 4 (by decide) rfl rfl _ rfl (slotSq_credit true 1 1)) $$ HL HF; iintro ⟨HL, HS⟩
  iapply (load_slot c true 1 1) $$ HS; iintro HS
  iapply (run_yield c _ (summed m ρ c true 1 0) rfl)
  iapply Hk
  isplitl [HL]; · iexact HL
  isplitl [HF'] <;> iassumption

theorem part11 (c : Dev nD) (v2 v7 : BitVec 32) (Q : (Σ' (_ : FVec F S512x1024 .f32), Vec F S512x1024 .bf16) → sProp 𝕄) :
    iprop((ledger m ρ K c 7 4 ∗ has c true 1 1 (landed m ρ c (true, 1, 0)) ∗ owns (c : Thread nD τ) aM fullShare (xA m ρ c) ∗ owns (c : Thread nD τ) kM fullShare (xB m ρ c))
      ∗ ((ledger m ρ K c 8 4 ∗ flying (F := F) c (true, 1, 1) ∗ owns (c : Thread nD τ) aM fullShare (xA m ρ c) ∗ owns (c : Thread nD τ) kM fullShare (xB m ρ c))
        -∗ Q ⟨prod m ρ c false 1, aRows m ρ c (stepRows true c 1)⟩))
      ⊢ run c (onBuffers (k0_part11 (F := F)) c v2 v7 (summed m ρ c true 1 0)) Q := by
  unfold onBuffers
  rw [k0_part11_eq_skeleton]; unfold k0_part11_skel
  simp only [Prog.lift, Prog.bind_op, Prog.bind_ret, Prog.pure_eq_ret]
  iintro ⟨⟨HL, HS, HA, HK⟩, Hk⟩
  iapply (load_slot c true 1 1) $$ HS; iintro HS
  iapply (store_slot c true 1 1 _ (sent m ρ c (true, 1, 1)) _ rfl) $$ HS; iintro HS
  iapply (move_send m ρ K c true 1 1 1 2 rfl rfl 7 8 4 rfl rfl _ (Fin.ext (k0_dev10_eq c)) _ _ rfl rfl) $$ HL HS; iintro ⟨HL, HF'⟩
  iapply (move_rows m ρ c (stepRows false c 1) (k0_off3 c 1#32) (off3_eq c 1)) $$ HA; iintro HA
  iapply (move_half m ρ c 0) $$ HK; iintro HK
  iapply (move_rows m ρ c (stepRows true c 1) (k0_off4 c 1#32) (off4_eq c 1)) $$ HA; iintro HA
  rw [pay22_eq]
  iapply (run_ret c)
  iapply Hk
  isplitl [HL]; · iexact HL
  isplitl [HF']; · iexact HF'
  isplitl [HA] <;> iassumption

theorem part12 (c : Dev nD) (v4 : BitVec 32) (Q : (Σ' (_ : FVec F S512x1024 .f32), FVec F S512x512 .bf16) → sProp 𝕄) :
    iprop((ledger m ρ K c 8 4 ∗ owns (c : Thread nD τ) kM fullShare (xB m ρ c) ∗ flying (F := F) c (false, 0, 1))
      ∗ ((ledger m ρ K c 8 5 ∗ owns (c : Thread nD τ) kM fullShare (xB m ρ c) ∗ has c false 0 2 (landed m ρ c (false, 0, 1)))
        -∗ Q ⟨prod m ρ c true 1, summed m ρ c false 0 1⟩))
      ⊢ run c (onBuffers (k0_part12 (F := F)) v4 (prod m ρ c false 1) (aRows m ρ c (stepRows true c 1))) Q := by
  unfold onBuffers
  rw [k0_part12_eq_skeleton]; unfold k0_part12_skel
  simp only [Prog.lift, Prog.bind_op, Prog.bind_ret, Prog.pure_eq_ret]
  iintro ⟨⟨HL, HK, HF⟩, Hk⟩
  iapply (move_half m ρ c 1) $$ HK; iintro HK
  iapply (move_sent m ρ K c (false, 0, 1) 8 4 _ rfl (slotSq_credit false 0 1)) $$ HL HF; iintro ⟨HL, HF⟩
  iapply (move_landed m ρ K c false 0 1 2 rfl 8 4 5 (by decide) rfl rfl _ rfl (slotSq_credit false 0 2)) $$ HL HF; iintro ⟨HL, HS⟩
  iapply (load_slot c false 0 2) $$ HS; iintro HS
  rw [pay23_eq, pay24_eq]
  iapply (run_ret c)
  iapply Hk
  isplitl [HL]; · iexact HL
  isplitl [HK] <;> iassumption

theorem part13 (c : Dev nD) (v4 : BitVec 32) (Q : PUnit → sProp 𝕄) :
    iprop((ledger m ρ K c 8 5 ∗ has c false 0 2 (landed m ρ c (false, 0, 1)) ∗ flying (F := F) c (true, 0, 1))
      ∗ ((ledger m ρ K c 9 5 ∗ flying (F := F) c (false, 0, 2) ∗ halfway (F := F) c (true, 0, 1)) -∗ Q ⟨⟩))
      ⊢ run c (onBuffers (k0_part13 (F := F)) c v4 (summed m ρ c false 0 1)) Q := by
  unfold onBuffers
  rw [k0_part13_eq_skeleton]; unfold k0_part13_skel
  simp only [Prog.lift, Prog.bind_op, Prog.bind_ret, Prog.pure_eq_ret]
  iintro ⟨⟨HL, HS, HF⟩, Hk⟩
  iapply (load_slot c false 0 2) $$ HS; iintro HS
  iapply (store_slot c false 0 2 _ (sent m ρ c (false, 0, 2)) _ rfl) $$ HS; iintro HS
  iapply (move_send m ρ K c false 0 2 2 3 rfl rfl 8 9 5 rfl rfl _ (Fin.ext (k0_dev11_eq c)) _ _ rfl rfl) $$ HL HS; iintro ⟨HL, HF'⟩
  iapply (move_sent m ρ K c (true, 0, 1) 9 5 _ rfl (slotSq_credit true 0 1)) $$ HL HF; iintro ⟨HL, HF⟩
  iapply (run_ret c)
  iapply Hk
  isplitl [HL]; · iexact HL
  isplitl [HF'] <;> iassumption

theorem part14 (c : Dev nD) (v7 : BitVec 32) (Q : PUnit → sProp 𝕄) :
    iprop((ledger m ρ K c 9 5 ∗ halfway (F := F) c (true, 0, 1)) ∗ ((ledger m ρ K c 10 6 ∗ flying (F := F) c (true, 0, 2)) -∗ Q ⟨⟩))
      ⊢ run c (onBuffers (k0_part14 (F := F)) c v7 (prod m ρ c true 1)) Q := by
  unfold onBuffers
  rw [k0_part14_eq_skeleton]; unfold k0_part14_skel
  simp only [Prog.lift, Prog.bind_op, Prog.bind_ret, Prog.pure_eq_ret]
  iintro ⟨⟨HL, HF⟩, Hk⟩
  iapply (move_landed m ρ K c true 0 1 2 rfl 9 5 6 (by decide) rfl rfl _ rfl (slotSq_credit true 0 2)) $$ HL HF; iintro ⟨HL, HS⟩
  iapply (load_slot c true 0 2) $$ HS; iintro HS
  iapply (load_slot c true 0 2) $$ HS; iintro HS
  iapply (store_slot c true 0 2 _ (sent m ρ c (true, 0, 2)) _ rfl) $$ HS; iintro HS
  iapply (move_send m ρ K c true 0 2 2 3 rfl rfl 9 10 6 rfl rfl _ (Fin.ext (k0_dev12_eq c)) _ _ rfl rfl) $$ HL HS; iintro ⟨HL, HF⟩
  iapply (run_ret c)
  iapply Hk
  isplitl [HL] <;> iassumption

theorem part15 (c : Dev nD) (v4 : BitVec 32) (Q : PUnit → sProp 𝕄) :
    iprop((ledger m ρ K c 10 6 ∗ flying (F := F) c (false, 1, 1)) ∗ ((ledger m ρ K c 10 7 ∗ has c false 1 2 (sent m ρ c (false, 1, 2))) -∗ Q ⟨⟩))
      ⊢ run c (onBuffers (k0_part15 (F := F)) v4 (prod m ρ c false 1)) Q := by
  unfold onBuffers
  rw [k0_part15_eq_skeleton]; unfold k0_part15_skel
  simp only [Prog.lift, Prog.bind_op, Prog.bind_ret, Prog.pure_eq_ret]
  iintro ⟨⟨HL, HF⟩, Hk⟩
  iapply (move_sent m ρ K c (false, 1, 1) 10 6 _ rfl (slotSq_credit false 1 1)) $$ HL HF; iintro ⟨HL, HF⟩
  iapply (move_landed m ρ K c false 1 1 2 rfl 10 6 7 (by decide) rfl rfl _ rfl (slotSq_credit false 1 2)) $$ HL HF; iintro ⟨HL, HS⟩
  iapply (load_slot c false 1 2) $$ HS; iintro HS
  iapply (load_slot c false 1 2) $$ HS; iintro HS
  iapply (store_slot c false 1 2 _ (sent m ρ c (false, 1, 2)) _ rfl) $$ HS; iintro HS
  iapply (run_ret c)
  iapply Hk
  isplitl [HL] <;> iassumption

theorem part16 (c : Dev nD) (v4 v7 : BitVec 32) (Q : PUnit → sProp 𝕄) :
    iprop((ledger m ρ K c 10 7 ∗ has c false 1 2 (sent m ρ c (false, 1, 2)) ∗ flying (F := F) c (true, 1, 1))
      ∗ ((ledger m ρ K c 11 7 ∗ flying (F := F) c (false, 1, 2) ∗ halfway (F := F) c (true, 1, 1)) -∗ Q ⟨⟩))
      ⊢ run c (onBuffers (k0_part16 (F := F)) c v4 v7) Q := by
  unfold onBuffers
  rw [k0_part16_eq_skeleton]; unfold k0_part16_skel
  simp only [Prog.lift, Prog.bind_op, Prog.bind_ret, Prog.pure_eq_ret]
  iintro ⟨⟨HL, HS, HF⟩, Hk⟩
  iapply (move_send m ρ K c false 1 2 2 3 rfl rfl 10 11 7 rfl rfl _ (Fin.ext (k0_dev13_eq c)) _ _ rfl rfl) $$ HL HS; iintro ⟨HL, HF'⟩
  iapply (move_sent m ρ K c (true, 1, 1) 11 7 _ rfl (slotSq_credit true 1 1)) $$ HL HF; iintro ⟨HL, HF⟩
  iapply (run_ret c)
  iapply Hk
  isplitl [HL]; · iexact HL
  isplitl [HF'] <;> iassumption

theorem part17 (c : Dev nD) (v2 v7 : BitVec 32) (Q : BitVec 32 → sProp 𝕄) :
    iprop((ledger m ρ K c 11 7 ∗ halfway (F := F) c (true, 1, 1)) ∗ (∀ v, (ledger m ρ K c 12 8 ∗ flying (F := F) c (true, 1, 2)) -∗ Q v))
      ⊢ run c (onBuffers (k0_part17 (F := F)) c v2 v7 (prod m ρ c true 1)) Q := by
  unfold onBuffers
  rw [k0_part17_eq_skeleton]; unfold k0_part17_skel
  simp only [Prog.lift, Prog.bind_op, Prog.bind_ret, Prog.pure_eq_ret]
  iintro ⟨⟨HL, HF⟩, Hk⟩
  iapply (move_landed m ρ K c true 1 1 2 rfl 11 7 8 (by decide) rfl rfl _ rfl (slotSq_credit true 1 2)) $$ HL HF; iintro ⟨HL, HS⟩
  iapply (load_slot c true 1 2) $$ HS; iintro HS
  iapply (load_slot c true 1 2) $$ HS; iintro HS
  iapply (store_slot c true 1 2 _ (sent m ρ c (true, 1, 2)) _ rfl) $$ HS; iintro HS
  iapply (move_send m ρ K c true 1 2 2 3 rfl rfl 11 12 8 rfl rfl _ (Fin.ext (k0_dev14_eq c)) _ _ rfl rfl) $$ HL HS; iintro ⟨HL, HF⟩
  iapply (run_ret c)
  iapply Hk
  isplitl [HL] <;> iassumption

end Cert.KernelIdealProof
-- ==== Proof.KernelIdeal.Closing.lean ====
/-
# `Closing`: the end of the body, step 2 of the ring

Parts 18 to 21 of the body and what follows them. The last tile of every rail is added to the device's own product and
stored as a tile of the result.
-/
module

public import proofs.«01_k».proof.Proof.KernelIdeal.Turning
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem pay29_eq (c : Dev nD) : k0_pay29 (aRows m ρ c (stepRows false c 2)) (bHalf m ρ c 0) = prod m ρ c false 2 := by
  unfold k0_pay29
  rw [shapeCast_self]
  rfl
theorem pay30_eq (c : Dev nD) : k0_pay30 (aRows m ρ c (stepRows true c 2)) (bHalf m ρ c 1) = prod m ρ c true 2 := by
  unfold k0_pay30
  rw [shapeCast_self]
  rfl

theorem part18 (c : Dev nD) (v2 v4 v : BitVec 32) (Q : (Σ' (_ : FVec F S512x1024 .f32), FVec F S512x1024 .f32) → sProp 𝕄) :
    iprop((ledger m ρ K c 12 8 ∗ owns (c : Thread nD τ) aM fullShare (xA m ρ c) ∗ owns (c : Thread nD τ) kM fullShare (xB m ρ c) ∗ flying (F := F) c (false, 0, 2))
      ∗ ((ledger m ρ K c 12 8 ∗ owns (c : Thread nD τ) aM fullShare (xA m ρ c) ∗ owns (c : Thread nD τ) kM fullShare (xB m ρ c) ∗ halfway (F := F) c (false, 0, 2)) -∗ Q ⟨prod m ρ c false 2, prod m ρ c true 2⟩))
      ⊢ run c (onBuffers (k0_part18 (F := F)) c v2 v4 v) Q := by
  unfold onBuffers
  rw [k0_part18_eq_skeleton]; unfold k0_part18_skel
  simp only [Prog.lift, Prog.bind_op, Prog.bind_ret, Prog.pure_eq_ret]
  iintro ⟨⟨HL, HA, HK, HF⟩, Hk⟩
  iapply (move_rows m ρ c (stepRows false c 2) (k0_off3 c 2#32) (off3_eq c 2)) $$ HA; iintro HA
  iapply (move_half m ρ c 0) $$ HK; iintro HK
  iapply (move_rows m ρ c (stepRows true c 2) (k0_off4 c 2#32) (off4_eq c 2)) $$ HA; iintro HA
  iapply (move_half m ρ c 1) $$ HK; iintro HK
  iapply (move_sent m ρ K c (false, 0, 2) 12 8 _ rfl (slotSq_credit false 0 2)) $$ HL HF; iintro ⟨HL, HF⟩
  rw [pay29_eq, pay30_eq]
  iapply (run_ret c)
  iapply Hk
  isplitl [HL]; · iexact HL
  isplitl [HA]; · iexact HA
  isplitl [HK] <;> iassumption

theorem part19 (c : Dev nD) (v7 : BitVec 32) (Y : S512x512.Idx → Elt F .f32) (Q : PUnit → sProp 𝕄) :
    iprop((ledger m ρ K c 12 8 ∗ halfway (F := F) c (false, 0, 2) ∗ result c 0 Y ∗ flying (F := F) c (true, 0, 2))
      ∗ ((ledger m ρ K c 12 9 ∗ has c false 0 3 (landed m ρ c (false, 0, 2)) ∗ result c 0 (outTile m ρ c false 0) ∗ halfway (F := F) c (true, 0, 2)) -∗ Q ⟨⟩))
      ⊢ run c (onBuffers (k0_part19 (F := F)) v7 (prod m ρ c false 2)) Q := by
  unfold onBuffers
  rw [k0_part19_eq_skeleton]; unfold k0_part19_skel
  simp only [Prog.lift, Prog.bind_op, Prog.bind_ret, Prog.pure_eq_ret]
  iintro ⟨⟨HL, HF, HT, HF'⟩, Hk⟩
  iapply (move_landed m ρ K c false 0 2 3 rfl 12 8 9 (by decide) rfl rfl _ rfl (slotSq_credit false 0 3)) $$ HL HF; iintro ⟨HL, HS⟩
  iapply (load_slot c false 0 3) $$ HS; iintro HS
  iapply (load_result c 0) $$ HT; iintro HT
  iapply (store_result c 0 _ (outTile m ρ c false 0) _ rfl) $$ HT; iintro HT
  iapply (move_sent m ρ K c (true, 0, 2) 12 9 _ rfl (slotSq_credit true 0 2)) $$ HL HF'; iintro ⟨HL, HF'⟩
  iapply (run_ret c)
  iapply Hk
  isplitl [HL]; · iexact HL
  isplitl [HS]; · iexact HS
  isplitl [HT] <;> iassumption

theorem part20 (c : Dev nD) (v4 : BitVec 32) (Y : S512x512.Idx → Elt F .f32) (Q : PUnit → sProp 𝕄) :
    iprop((ledger m ρ K c 12 9 ∗ halfway (F := F) c (true, 0, 2) ∗ result c 2 Y ∗ flying (F := F) c (false, 1, 2))
      ∗ ((ledger m ρ K c 12 10 ∗ has c true 0 3 (landed m ρ c (true, 0, 2)) ∗ result c 2 (outTile m ρ c true 0) ∗ halfway (F := F) c (false, 1, 2)) -∗ Q ⟨⟩))
      ⊢ run c (onBuffers (k0_part20 (F := F)) v4 (prod m ρ c true 2)) Q := by
  unfold onBuffers
  rw [k0_part20_eq_skeleton]; unfold k0_part20_skel
  simp only [Prog.lift, Prog.bind_op, Prog.bind_ret, Prog.pure_eq_ret]
  iintro ⟨⟨HL, HF, HT, HF'⟩, Hk⟩
  iapply (move_landed m ρ K c true 0 2 3 rfl 12 9 10 (by decide) rfl rfl _ rfl (slotSq_credit true 0 3)) $$ HL HF; iintro ⟨HL, HS⟩
  iapply (load_slot c true 0 3) $$ HS; iintro HS
  iapply (load_result c 2) $$ HT; iintro HT
  iapply (store_result c 2 _ (outTile m ρ c true 0) _ rfl) $$ HT; iintro HT
  iapply (move_sent m ρ K c (false, 1, 2) 12 10 _ rfl (slotSq_credit false 1 2)) $$ HL HF'; iintro ⟨HL, HF'⟩
  iapply (run_ret c)
  iapply Hk
  isplitl [HL]; · iexact HL
  isplitl [HS]; · iexact HS
  isplitl [HT] <;> iassumption

theorem part21 (c : Dev nD) (v7 : BitVec 32) (Y : S512x512.Idx → Elt F .f32) (Q : FVec F S512x512 .f32 → sProp 𝕄) :
    iprop((ledger m ρ K c 12 10 ∗ halfway (F := F) c (false, 1, 2) ∗ result c 1 Y ∗ flying (F := F) c (true, 1, 2))
      ∗ ((ledger m ρ K c 12 12 ∗ has c false 1 3 (landed m ρ c (false, 1, 2)) ∗ result c 1 (outTile m ρ c false 1) ∗ has c true 1 3 (landed m ρ c (true, 1, 2)))
        -∗ Q (railOf 1 (prod m ρ c true 2))))
      ⊢ run c (onBuffers (k0_part21 (F := F)) v7 (prod m ρ c false 2) (prod m ρ c true 2)) Q := by
  unfold onBuffers
  rw [k0_part21_eq_skeleton]; unfold k0_part21_skel
  simp only [Prog.lift, Prog.bind_op, Prog.bind_ret, Prog.pure_eq_ret]
  iintro ⟨⟨HL, HF, HT, HF'⟩, Hk⟩
  iapply (move_landed m ρ K c false 1 2 3 rfl 12 10 11 (by decide) rfl rfl _ rfl (slotSq_credit false 1 3)) $$ HL HF; iintro ⟨HL, HS⟩
  iapply (load_slot c false 1 3) $$ HS; iintro HS
  iapply (load_result c 1) $$ HT; iintro HT
  iapply (store_result c 1 _ (outTile m ρ c false 1) _ rfl) $$ HT; iintro HT
  iapply (move_sent m ρ K c (true, 1, 2) 12 11 _ rfl (slotSq_credit true 1 2)) $$ HL HF'; iintro ⟨HL, HF'⟩
  iapply (move_landed m ρ K c true 1 2 3 rfl 12 11 12 (by decide) rfl rfl _ rfl (slotSq_credit true 1 3)) $$ HL HF'; iintro ⟨HL, HS'⟩
  iapply (run_yield c _ (railOf 1 (prod m ρ c true 2)) rfl)
  iapply Hk
  isplitl [HL]; · iexact HL
  isplitl [HS]; · iexact HS
  isplitl [HT] <;> iassumption

end Cert.KernelIdealProof
-- ==== Proof.KernelIdeal.Rejoin.lean ====
/-
# `Rejoin`: buffers taken apart into the parts that the body works on, and put together again

The scratch copy of B and the result are four tiles of columns each; a scratch array of a direction is two rails of four
slots. What is owned whole is owned part by part, and the other way round.
-/
module

public import proofs.«01_k».proof.Proof.KernelIdeal.Moves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_bool (Φ : Bool → sProp 𝕄) : bigSep Finset.univ Φ = iprop(Φ false ∗ Φ true) :=
  bigSep_univ_eq_bigSepL [false, true] (by decide) (by decide) Φ

/-! ## Tiles -/

/-- The scratch copy of B, tile by tile, -/
theorem copied_open (c : Dev nD) (X : S1024x2048.Idx → Elt F .bf16) :
    owns (c : Thread nD τ) kM fullShare X ⊢ iprop(copied c 0 (fun i => X ((colsR 0).emb i)) ∗ copied c 1 (fun i => X ((colsR 1).emb i))
      ∗ copied c 2 (fun i => X ((colsR 2).emb i)) ∗ copied c 3 (fun i => X ((colsR 3).emb i))) :=
  (owns_rects (c : Thread nD τ) kM fullShare colsR (fun _ _ => rfl) colsR_disjoint colsR_cover X).trans (Entails.of_eq (bigSep_four _))

/-- and whole again once every tile is copied. -/
theorem copied_close (c : Dev nD) :
    iprop(copied c 0 (bCols m ρ c 0) ∗ copied c 1 (bCols m ρ c 1) ∗ copied c 2 (bCols m ρ c 2) ∗ copied c 3 (bCols m ρ c 3))
      ⊢ owns (c : Thread nD τ) kM fullShare (xB m ρ c) :=
  (Entails.of_eq (bigSep_four fun j => copied c j (bCols m ρ c j)).symm).trans
    (owns_of_rects (c : Thread nD τ) kM fullShare colsR (fun _ _ => rfl) colsR_disjoint colsR_cover (xB m ρ c))

/-- The result, tile by tile, -/
theorem result_open (c : Dev nD) (X : S512x2048.Idx → Elt F .f32) :
    owns (c : Thread nD τ) oM fullShare X ⊢ iprop(result c 0 (fun i => X ((outR 0).emb i)) ∗ result c 1 (fun i => X ((outR 1).emb i))
      ∗ result c 2 (fun i => X ((outR 2).emb i)) ∗ result c 3 (fun i => X ((outR 3).emb i))) :=
  (owns_rects (c : Thread nD τ) oM fullShare outR (fun _ _ => rfl) outR_disjoint outR_cover X).trans (Entails.of_eq (bigSep_four _))

/-- and whole again once every tile is computed. -/
theorem result_close (c : Dev nD) :
    iprop(result c 0 (outTile m ρ c false 0) ∗ result c 1 (outTile m ρ c false 1) ∗ result c 2 (outTile m ρ c true 0) ∗ result c 3 (outTile m ρ c true 1))
      ⊢ owns (c : Thread nD τ) oM fullShare (outAt m ρ c) := by
  refine (Entails.of_eq ((bigSep_four fun j => result c j (outTile m ρ c (untile j).1 (untile j).2)).symm.trans (bigSep_congr fun j _ => ?_))).trans
    (owns_of_rects (c : Thread nD τ) oM fullShare outR (fun _ _ => rfl) outR_disjoint outR_cover (outAt m ρ c))
  unfold result
  exact congrArg _ (funext fun i => (outAt_emb m ρ c j i).symm)

/-! ## Slots -/

theorem has_any (c : Dev nD) (d : Bool) (r : Fin 2) (j : Fin 4) (Y : Vec F S1x1x512x512 .bf16) : has c d r j Y ⊢ hasAny (F := F) c d r j := by
  unfold hasAny
  iintro H
  iexists Y
  iexact H

/-- Every slot of direction `d`, with any contents. -/
def every (c : Dev nD) (d : Bool) : sProp 𝕄 := bigSep (Finset.univ : Finset (Fin 2 × Fin 4)) fun p => hasAny (F := F) c d p.1 p.2

/-- A scratch array is its slots, -/
theorem every_open (c : Dev nD) (d : Bool) (X : S2x4x512x512.Idx → Elt F .bf16) :
    owns (c : Thread nD τ) (comm d) fullShare X ⊢ every (F := F) c d := by
  refine (owns_rects (c : Thread nD τ) (comm d) fullShare slotsR (fun _ _ => rfl) slotsR_disjoint slotsR_cover X).trans (bigSep_mono fun p _ => has_any c d p.1 p.2 _)

/-- and its slots make up the array. -/
theorem every_close (c : Dev nD) (d : Bool) : every (F := F) c d ⊢ iprop(∃ X, owns (c : Thread nD τ) (comm d) fullShare X) := by
  unfold every hasAny
  have hne : ∀ _ : Fin 2 × Fin 4, Nonempty (Vec F S1x1x512x512 .bf16) := fun _ => ⟨fun _ => (Elt.inhabited F .bf16).default⟩
  refine (@BI.bigSep_exists_pi _ _ _ _ (fun _ => Vec F S1x1x512x512 .bf16) hne Finset.univ fun (p : Fin 2 × Fin 4) Y => has (F := F) c d p.1 p.2 Y).trans ?_
  iintro ⟨%Y, H⟩
  iexists (Rect.glue slotsR slotsR_cover Y)
  iapply (owns_of_rects (c : Thread nD τ) (comm d) fullShare slotsR (fun _ _ => rfl) slotsR_disjoint slotsR_cover (Rect.glue slotsR slotsR_cover Y))
  iapply (show (bigSep Finset.univ fun p : Fin 2 × Fin 4 => has c d p.1 p.2 (Y p) : sProp 𝕄) ⊢ _ from
    Entails.of_eq (bigSep_congr fun p _ => by
      unfold has
      exact congrArg _ (funext fun i => (Rect.glue_emb slotsR slotsR_cover slotsR_disjoint Y p i).symm)))
  iexact H

theorem bigSep_slots (Φ : Fin 2 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ
theorem bigSep_steps (Φ : Fin 2 × Fin 3 → sProp 𝕄) : bigSep Finset.univ Φ
    = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

/-- At the start: the slots that are landed in, and the first of each rail. -/
theorem every_start (c : Dev nD) (d : Bool) : every (F := F) c d ⊢ iprop(mine (F := F) c d ∗ hasAny (F := F) c d 0 0 ∗ hasAny (F := F) c d 1 0) := by
  unfold every mine
  rw [bigSep_slots, bigSep_steps]
  iintro ⟨H00, H01, H02, H03, H10, H11, H12, H13⟩
  isplitr [H00 H10]
  · isplitl [H01]; · iexact H01
    isplitl [H02]; · iexact H02
    isplitl [H03]; · iexact H03
    isplitl [H11]; · iexact H11
    isplitl [H12]; · iexact H12
    iexact H13
  isplitl [H00]; · iexact H00
  iexact H10

/-- At the end: the slots that were sent, and the last of each rail. -/
theorem every_end (c : Dev nD) (d : Bool) :
    iprop((bigSep (Finset.univ : Finset (Fin 2 × Fin 3)) fun p => hasAny (F := F) c d p.1 p.2.castSucc) ∗ hasAny (F := F) c d 0 3 ∗ hasAny (F := F) c d 1 3)
      ⊢ every (F := F) c d := by
  unfold every
  rw [bigSep_slots, bigSep_steps]
  iintro ⟨⟨H00, H01, H02, H10, H11, H12⟩, H03, H13⟩
  isplitl [H00]; · iexact H00
  isplitl [H01]; · iexact H01
  isplitl [H02]; · iexact H02
  isplitl [H03]; · iexact H03
  isplitl [H10]; · iexact H10
  isplitl [H11]; · iexact H11
  isplitl [H12]; · iexact H12
  iexact H13

/-- When all transfers are complete: the semaphores at zero, and both scratch arrays once the last slots join. -/
theorem fin_all (c : Dev nD) :
    iprop(bigSep Finset.univ (fin (F := F) c) ∗ (hasAny (F := F) c false 0 3 ∗ hasAny (F := F) c false 1 3) ∗ hasAny (F := F) c true 0 3 ∗ hasAny (F := F) c true 1 3)
      ⊢ iprop((bigSep Finset.univ fun i : Bool × T => semVal (kcell c (some i)) 0) ∗ every (F := F) c false ∗ every (F := F) c true) := by
  unfold fin
  rw [bigSep_sep', bigSep_sep', bigSep_univ_prod (fun i : Bool × T => semVal (kcell c (some i)) 0), bigSep_bool,
    bigSep_univ_prod (fun t : T => hasAny (F := F) c t.1 t.2.1 t.2.2.castSucc), bigSep_bool]
  iintro ⟨⟨⟨HS, HF, HT⟩, HR⟩, HF3, HT3⟩
  isplitl [HS HR]
  · isplitl [HS] <;> iassumption
  isplitl [HF HF3]
  · iapply (every_end c false)
    isplitl [HF] <;> iassumption
  iapply (every_end c true)
  isplitl [HT] <;> iassumption

end Cert.KernelIdealProof
-- ==== Proof.KernelIdeal.Body.lean ====
/-
# `Body`: the body as a whole

The parts one after the other, from what a device holds when its kernel starts to what it holds when the kernel ends:
the result computed, every transfer complete and every semaphore back at zero.
-/
module

public import proofs.«01_k».proof.Proof.KernelIdeal.Closing
public import proofs.«01_k».proof.Proof.KernelIdeal.Rejoin

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- What device `c` has of the ring when its kernel starts: the shared records, a token for the signal to each neighbour,
    its place and credit at its own barrier, and what it takes to make every transfer. -/
def ghost (c : Dev nD) : sProp 𝕄 :=
  iprop(records m ρ K ∗ (dutyTok ER (barCell (src false c)) 0 false ∗ dutyTok ER (barCell (src true c)) 0 true)
    ∗ (atPos ER (barCell c) 0 ∅ 0 ∗ cred (tallyAt (barCell c) () 2)) ∗ bigSep Finset.univ fun t : T => grant (F := F) c t)

/-- The scratch memory of device `c`, with any contents. -/
def scratch (c : Dev nD) : sProp 𝕄 :=
  iprop((∃ X, owns (c : Thread nD τ) (comm false) fullShare X) ∗ (∃ X, owns (c : Thread nD τ) (comm true) fullShare X)
    ∗ ∃ X, owns (c : Thread nD τ) kM fullShare X)

/-- What device `c` ends with besides its staging buffers: the scratch memory and its semaphores, all at zero. -/
def ended (c : Dev nD) : sProp 𝕄 :=
  iprop(scratch (F := F) c ∗ (bigSep Finset.univ fun i : Bool × T => semVal (kcell c (some i)) 0) ∗ semVal (barCell c) 0)

theorem ended_intro (c : Dev nD) (W : Vec F S1x1x512x512 .bf16) (X : Vec F S1x1x512x512 .bf16) (Y : Vec F S1x1x512x512 .bf16) (Z : Vec F S1x1x512x512 .bf16) :
    iprop(bigSep Finset.univ (fin (F := F) c) ∗ (has c false 0 3 W ∗ has c false 1 3 X ∗ has c true 0 3 Y ∗ has c true 1 3 Z)
      ∗ owns (c : Thread nD τ) kM fullShare (xB m ρ c) ∗ semVal (barCell c) 0) ⊢ ended (F := F) c := by
  iintro ⟨HD, ⟨H1, H2, H3, H4⟩, HK, HZ⟩
  ihave H := (fin_all (F := F) c) $$ [HD H1 H2 H3 H4]
  · isplitl [HD]; · iexact HD
    isplitl [H1 H2]
    · isplitl [H1]
      · iapply (has_any c false 0 3 W); iexact H1
      · iapply (has_any c false 1 3 X); iexact H2
    isplitl [H3]
    · iapply (has_any c true 0 3 Y); iexact H3
    iapply (has_any c true 1 3 Z); iexact H4
  icases H with ⟨HS, HF, HT⟩
  unfold ended scratch
  isplitr [HS HZ]
  · isplitl [HF]; · iapply (every_close c false); iexact HF
    isplitl [HT]; · iapply (every_close c true); iexact HT
    iexists _; iexact HK
  isplitl [HS]; · iexact HS
  iexact HZ

/-- What follows the last part: the last tile of the result. -/
theorem tail (c : Dev nD) (Y : Vec F S512x512 .f32) (Q : PUnit → sProp 𝕄)
    {hl : (comm true).view.LoadsAt (slotR 1 3).toLoadRect} {hl' : oM.view.LoadsAt (outR 3).toLoadRect} {hx : (oM.access (outR 3)).Stores Finset.univ}
    {hm : (Finset.univ : Finset (outR 3).shape.Idx) = Finset.univ ∨ ∀ a, (outR 3).stride a = 1} :
    iprop((has c true 1 3 (landed m ρ c (true, 1, 2)) ∗ result c 3 Y)
      ∗ ((has c true 1 3 (landed m ρ c (true, 1, 2)) ∗ result c 3 (outTile m ρ c true 1)) -∗ Q ⟨⟩))
      ⊢ run c (.op (.load (comm true) (slotR 1 3).toLoadRect hl) fun v => .op (.load oM (outR 3).toLoadRect hl') fun _ =>
          .op (.store oM (outR 3) (k0_pay1 (railOf 1 (prod m ρ c true 2)) v) Finset.univ hx hm) fun _ => .ret ⟨⟩) Q := by
  iintro ⟨⟨HS, HT⟩, Hk⟩
  iapply (load_slot c true 1 3) $$ HS; iintro HS
  iapply (load_result c 3) $$ HT; iintro HT
  iapply (store_result c 3 _ (outTile m ρ c true 1) _ rfl) $$ HT; iintro HT
  iapply (run_ret c)
  iapply Hk
  isplitl [HS] <;> iassumption

set_option maxHeartbeats 1600000 in
theorem sound_body (c : Dev nD) (Q : PUnit → sProp 𝕄) :
    iprop((ghost m ρ K c ∗ (∃ W, owes (c : Thread nD τ) (O₀ c) W) ∗ scratch (F := F) c
        ∗ owns (c : Thread nD τ) aM fullShare (xA m ρ c) ∗ owns (c : Thread nD τ) bM fullShare (xB m ρ c) ∗ ∃ X, owns (c : Thread nD τ) oM fullShare X)
      ∗ ((ended (F := F) c ∗ (∃ W, owes (c : Thread nD τ) 0 W)
        ∗ owns (c : Thread nD τ) aM fullShare (xA m ρ c) ∗ owns (c : Thread nD τ) bM fullShare (xB m ρ c) ∗ owns (c : Thread nD τ) oM fullShare (outAt m ρ c)) -∗ Q ⟨⟩))
      ⊢ run c (onBuffers (cc0_body (F := F))) Q := by
  unfold onBuffers
  rw [cc0_body_eq_skeleton]; unfold cc0_body_skel
  simp only [Prog.lift, Prog.bind_op, Prog.bind_ret, Prog.pure_eq_ret, wp_bind]
  unfold ghost scratch
  iintro ⟨⟨⟨#HR, ⟨HtF, HtT⟩, Hbar, HG⟩, HO, ⟨⟨%XF, HF⟩, ⟨%XT, HT⟩, ⟨%XK, HK⟩⟩, HA, HB, ⟨%XO, Hout⟩⟩, Hk⟩
  ihave HF := (every_open c false XF) $$ HF
  ihave HT := (every_open c true XT) $$ HT
  ihave HF := (every_start c false) $$ HF
  ihave HT := (every_start c true) $$ HT
  ihave HK := (copied_open c XK) $$ HK
  ihave Hout := (result_open c XO) $$ Hout
  icases HF with ⟨HmF, HF0, HF1⟩
  icases HT with ⟨HmT, HT0, HT1⟩
  icases HK with ⟨HK0, HK1, HK2, HK3⟩
  icases Hout with ⟨HO0, HO1, HO2, HO3⟩
  unfold hasAny
  icases HF0 with ⟨%Z0, HF0⟩
  icases HF1 with ⟨%Z1, HF1⟩
  icases HT0 with ⟨%Z2, HT0⟩
  icases HT1 with ⟨%Z3, HT1⟩
  iapply (part1 m ρ c)
  isplitl [HA HB HK0 HF0]
  · isplitl [HA]; · iexact HA
    isplitl [HB]; · iexact HB
    isplitl [HK0]; · iexact HK0
    iexact HF0
  iintro ⟨HA, HB, HK0, HF0⟩
  iapply (part2 m ρ K c)
  isplitl [HtF HtT Hbar HG HO HmF HmT HB HK2 HF0]
  · isplitr [HB HK2 HF0]
    · unfold gate
      isplitr; · iexact HR
      isplitl [HO]; · iexact HO
      isplitl [HtF HtT HmF HmT]
      · isplitl [HtF HmF]
        · isplitl [HtF]; · iexact HtF
          iexact HmF
        isplitl [HtT]; · iexact HtT
        iexact HmT
      isplitl [Hbar]; · iexact Hbar
      iexact HG
    isplitl [HB]; · iexact HB
    isplitl [HK2]; · iexact HK2
    iexact HF0
  iintro ⟨HL, HZ, HB, HK2, HF00⟩
  iapply (part3 m ρ K c)
  isplitl [HL HB HK1 HT0 HF1]
  · isplitl [HL]; · iexact HL
    isplitl [HB]; · iexact HB
    isplitl [HK1]; · iexact HK1
    isplitl [HT0]; · iexact HT0
    iexact HF1
  iintro ⟨HL, HB, HK1, HT00, HF1⟩
  iapply (part4 m ρ K c)
  isplitl [HL HB HK3 HF1 HT1]
  · isplitl [HL]; · iexact HL
    isplitl [HB]; · iexact HB
    isplitl [HK3]; · iexact HK3
    isplitl [HF1]; · iexact HF1
    iexact HT1
  iintro ⟨HL, HB, HK3, HF10, HT1⟩
  ihave HK := (copied_close m ρ c) $$ [HK0 HK1 HK2 HK3]
  · isplitl [HK0]; · iexact HK0
    isplitl [HK1]; · iexact HK1
    isplitl [HK2]; · iexact HK2
    iexact HK3
  iapply (part5 m ρ K c)
  isplitl [HL HA HK HT1]
  · isplitl [HL]; · iexact HL
    isplitl [HA]; · iexact HA
    isplitl [HK]; · iexact HK
    iexact HT1
  iintro ⟨HL, HA, HK, HT10⟩
  iapply (part6 m ρ K c)
  isplitl [HL HF00]
  · isplitl [HL]; · iexact HL
    iexact HF00
  iintro ⟨HL, HF0⟩
  iapply (part7 m ρ K c)
  isplitl [HL HF0 HT00]
  · isplitl [HL]; · iexact HL
    isplitl [HF0]; · iexact HF0
    iexact HT00
  iintro ⟨HL, HF00, HT0⟩
  iapply (part8 m ρ K c)
  isplitl [HL HT0 HF10]
  · isplitl [HL]; · iexact HL
    isplitl [HT0]; · iexact HT0
    iexact HF10
  iintro ⟨HL, HT00, HF10⟩
  iapply (part9 m ρ K c)
  isplitl [HL HF10]
  · isplitl [HL]; · iexact HL
    iexact HF10
  iintro ⟨HL, HF1⟩
  iapply (part10 m ρ K c)
  isplitl [HL HF1 HT10]
  · isplitl [HL]; · iexact HL
    isplitl [HF1]; · iexact HF1
    iexact HT10
  iintro ⟨HL, HF10, HT1⟩
  iapply (part11 m ρ K c)
  isplitl [HL HT1 HA HK]
  · isplitl [HL]; · iexact HL
    isplitl [HT1]; · iexact HT1
    isplitl [HA]; · iexact HA
    iexact HK
  iintro ⟨HL, HT10, HA, HK⟩
  iapply (part12 m ρ K c)
  isplitl [HL HK HF00]
  · isplitl [HL]; · iexact HL
    isplitl [HK]; · iexact HK
    iexact HF00
  iintro ⟨HL, HK, HF0⟩
  iapply (part13 m ρ K c)
  isplitl [HL HF0 HT00]
  · isplitl [HL]; · iexact HL
    isplitl [HF0]; · iexact HF0
    iexact HT00
  iintro ⟨HL, HF00, HT00⟩
  iapply (part14 m ρ K c)
  isplitl [HL HT00]
  · isplitl [HL]; · iexact HL
    iexact HT00
  iintro ⟨HL, HT00⟩
  iapply (part15 m ρ K c)
  isplitl [HL HF10]
  · isplitl [HL]; · iexact HL
    iexact HF10
  iintro ⟨HL, HF1⟩
  iapply (part16 m ρ K c)
  isplitl [HL HF1 HT10]
  · isplitl [HL]; · iexact HL
    isplitl [HF1]; · iexact HF1
    iexact HT10
  iintro ⟨HL, HF10, HT10⟩
  iapply (part17 m ρ K c)
  isplitl [HL HT10]
  · isplitl [HL]; · iexact HL
    iexact HT10
  iintro %v ⟨HL, HT10⟩
  iapply (part18 m ρ K c)
  isplitl [HL HA HK HF00]
  · isplitl [HL]; · iexact HL
    isplitl [HA]; · iexact HA
    isplitl [HK]; · iexact HK
    iexact HF00
  iintro ⟨HL, HA, HK, HF00⟩
  iapply (part19 m ρ K c)
  isplitl [HL HF00 HO0 HT00]
  · isplitl [HL]; · iexact HL
    isplitl [HF00]; · iexact HF00
    isplitl [HO0]; · iexact HO0
    iexact HT00
  iintro ⟨HL, HF0, HO0, HT00⟩
  iapply (part20 m ρ K c)
  isplitl [HL HT00 HO2 HF10]
  · isplitl [HL]; · iexact HL
    isplitl [HT00]; · iexact HT00
    isplitl [HO2]; · iexact HO2
    iexact HF10
  iintro ⟨HL, HT0, HO2, HF10⟩
  iapply (part21 m ρ K c)
  isplitl [HL HF10 HO1 HT10]
  · isplitl [HL]; · iexact HL
    isplitl [HF10]; · iexact HF10
    isplitl [HO1]; · iexact HO1
    iexact HT10
  iintro ⟨HL, HF1, HO1, HT1⟩
  iapply (tail m ρ c)
  isplitl [HT1 HO3]
  · isplitl [HT1]; · iexact HT1
    iexact HO3
  iintro ⟨HT1, HO3⟩
  iapply Hk
  unfold ledger
  icases HL with ⟨-, -, HO, HD⟩
  isplitl [HD HF0 HF1 HT0 HT1 HK HZ]
  · iapply (ended_intro m ρ c)
    isplitl [HD]; · iapply (Entails.of_eq (Done_all (F := F) c)); iexact HD
    isplitl [HF0 HF1 HT0 HT1]
    · isplitl [HF0]; · iexact HF0
      isplitl [HF1]; · iexact HF1
      isplitl [HT0]; · iexact HT0
      iexact HT1
    isplitl [HK]; · iexact HK
    iexact HZ
  isplitl [HO]
  · unfold owing
    rw [oweFrom_end]
    iexact HO
  isplitl [HA]; · iexact HA
  isplitl [HB]; · iexact HB
  iapply (result_close m ρ c)
  isplitl [HO0]; · iexact HO0
  isplitl [HO1]; · iexact HO1
  isplitl [HO2]; · iexact HO2
  iexact HO3

end Cert.KernelIdealProof
-- ==== Proof.KernelIdeal.Obligation.lean ====
/-
# `Obligation`: the body as the pipeline asks for it

The pipeline brings the two arguments into their staging buffers, runs the body once, and writes the result's staging
buffer back. These are the contents before and after, and the statement that the body meets them.
-/
module

public import proofs.«01_k».proof.Proof.KernelIdeal.Body
public import proofs.«01_k».proof.Proof.Gen.KernelIdeal.Frame

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- What device `c` has of the ring at launch. -/
def start (c : Dev nD) : sProp 𝕄 := iprop(∃ K, ghost m ρ K c)
/-- Before the body: that and the scratch memory. -/
def Φ₀ (c : Dev nD) : sProp 𝕄 := iprop(start m ρ c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m ρ c
    | ⟨1, _⟩ => xB m ρ c
    | ⟨2, _⟩ => outAt m ρ c
  Φ t := match t with
    | ⟨0, _⟩ => Φ₀ m ρ c
    | ⟨_ + 1, _⟩ => ended (F := F) c
  q _ := fullShare
  owed t := match t with
    | ⟨0, _⟩ => O₀ c
    | ⟨_ + 1, _⟩ => 0

/-- What the body starts from and ends with, buffer by buffer. -/
def bodyPre (c : Dev nD) : sProp 𝕄 :=
  iprop(Φ₀ m ρ c ∗ (dats m ρ 0 c).owesAt () t0_0.castSucc
    ∗ (∃ d, owns (c : Thread nD τ) aM fullShare ((dats m ρ 0 c).before (0 : Fin 3) t0_0 d))
    ∗ (∃ d, owns (c : Thread nD τ) bM fullShare ((dats m ρ 0 c).before (1 : Fin 3) t0_0 d))
    ∗ (∃ d, owns (c : Thread nD τ) oM fullShare ((dats m ρ 0 c).before (2 : Fin 3) t0_0 d)))
def bodyPost (c : Dev nD) : sProp 𝕄 :=
  iprop(ended (F := F) c ∗ (dats m ρ 0 c).owesAt () t0_0.succ
    ∗ owns (c : Thread nD τ) aM fullShare (xA m ρ c) ∗ owns (c : Thread nD τ) bM fullShare (xB m ρ c) ∗ owns (c : Thread nD τ) oM fullShare (outAt m ρ c))

theorem before_A (c : Dev nD) (d) : (dats m ρ 0 c).before (0 : Fin 3) t0_0 d = xA m ρ c := by
  unfold Dat.before; rw [if_pos (fetch0_0 t0_0)]; rfl
theorem before_B (c : Dev nD) (d) : (dats m ρ 0 c).before (1 : Fin 3) t0_0 d = xB m ρ c := by
  unfold Dat.before; rw [if_pos (fetch0_1 t0_0)]; rfl

theorem body_met (c : Dev nD) : bodyPre m ρ c ⊢ run c (onBuffers (cc0_body (F := F))) (fun _ => bodyPost m ρ c) := by
  unfold bodyPre Φ₀ start Dat.owesAt Pipeline.owesWithin
  rw [show (dats m ρ 0 c).owed t0_0.castSucc = O₀ c from rfl]
  iintro ⟨⟨⟨%K, HG⟩, HS⟩, ⟨%W, %hW, HO⟩, ⟨%d0, HA⟩, ⟨%d1, HB⟩, ⟨%d2, Hout⟩⟩
  rw [before_A, before_B]
  iapply (sound_body m ρ K c fun _ => bodyPost m ρ c)
  isplitl
  · isplitl [HG]; · iexact HG
    isplitl [HO]; · iexists W; iexact HO
    isplitl [HS]; · iexact HS
    isplitl [HA]; · iexact HA
    isplitl [HB]; · iexact HB
    iexists _; iexact Hout
  iintro ⟨HE, ⟨%W', HO⟩, HA, HB, Hout⟩
  unfold bodyPost Dat.owesAt Pipeline.owesWithin
  rw [show (dats m ρ 0 c).owed t0_0.succ = 0 from rfl]
  isplitl [HE]; · iexact HE
  isplitl [HO]
  · iexists W'
    isplitr; · ipureintro; exact fun _ _ => Or.inl trivial
    iexact HO
  isplitl [HA]; · iexact HA
  isplitl [HB]; · iexact HB
  iexact Hout

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  exact body_met m ρ c

end Cert.KernelIdealProof
-- ==== Proof.KernelIdeal.Launch.lean ====
/-
# `Launch`: the four devices together

At launch every semaphore's cell is put under its invariant and the tokens are dealt around the ring: the token of a
signal or a transfer goes to the device that pays it. Then the run of the whole program: every execution ends, with the
arguments unchanged, each device's result as the body computes it, and every semaphore at zero.
-/
module

public import proofs.«01_k».proof.Proof.KernelIdeal.Obligation
public import Idealize.ShloMosaic.Lib.Pipeline.Launch
public import Idealize.ShloMosaic.Lib.Pipeline.Kit
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem ownSemFacts : Pipeline.OwnSemFacts cfg0.spec osem := by decide +kernel

theorem share_eq (c : Dev nD) (w : Fin cfg0.W) : (dats m ρ 0 c).share w = fullShare := by unfold Dat.share; split <;> rfl

/-- All cells, and all tokens: one of each name for every cell. -/
theorem cells_inj : Function.Injective fun x : Dev nD × CI => (kcell x.1 x.2 : GSem nD τ sig) := fun _ _ h =>
  Prod.ext (kcell_inj h).1 (kcell_inj h).2
theorem toks_inj : Function.Injective fun x : (Dev nD × CI) × Bool => ((kcell x.1.1 x.1.2 : GSem nD τ sig), (0 : ℕ), x.2) := fun a b h =>
  Prod.ext (cells_inj (congrArg Prod.fst h)) (congrArg (fun y => y.2.2) h)
def ringCells : Finset (GSem nD τ sig) := Finset.univ.map ⟨_, cells_inj⟩
def ringToks : Finset (GSem nD τ sig × ℕ × Bool) := Finset.univ.map ⟨_, toks_inj⟩

def u₀ : UU := (initOf (Pipeline.cells cfgs cellOf_inj) (Pipeline.launchToks cfgs cellOf_inj), initOf ringCells ringToks)

/-- A separating conjunction over the cells of a device: its barrier's and the others'. -/
theorem bigSep_CI (Φ : CI → sProp 𝕄) : bigSep Finset.univ Φ = iprop(Φ none ∗ bigSep Finset.univ fun i : Bool × T => Φ (some i)) := by
  have h : (Finset.univ : Finset CI) = insert none (Finset.univ.map Function.Embedding.some) := Finset.ext fun x => by cases x <;> simp
  rw [h, BI.bigSep_insert (by simp), bigSep_map]
  rfl

/-- The tokens of device `c`'s own cells. -/
def toks (c : Dev nD) : sProp 𝕄 := bigSep Finset.univ fun i : CI => bigSep Finset.univ fun d : Bool => dutyTok ER (kcell c i) 0 d

/-- What the launch deals device `c`. -/
def G (c : Dev nD) : sProp 𝕄 :=
  iprop((bigSep Finset.univ fun i : CI => roundState ER (ringRd m ρ) (kcell c i) 0)
    ∗ (bigSep Finset.univ fun i : CI => iprop(atPos ER (kcell c i) 0 ∅ 0 ∗ reached ER (kcell c i) 0)) ∗ toks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CI => Φ (kcell c i) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The cells' invariants -/

/-- The barrier semaphore is the one semaphore of the program that is no kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell c i) 0 : sProp 𝕄) := by
  rw [unscopedSems0_eq, bigSep_CI]
  exact sep_comm

/-- What is left after a device's invariants are allocated. -/
def placed (c : Dev nD) : sProp 𝕄 :=
  iprop((bigSep Finset.univ fun i : CI => iprop(∃ κ : ℕ, cellInv ER (ringRd m ρ) κ (kcell c i)))
    ∗ (bigSep Finset.univ fun i : CI => iprop(atPos ER (kcell c i) 0 ∅ 0 ∗ reached ER (kcell c i) 0)) ∗ toks (F := F) c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> placed m ρ c := by
  unfold G placed
  iintro ⟨Hos, Hus, Hst, Hat, Htok⟩
  ihave Hv := (sems0_eq (F := F) c) $$ [Hos Hus]
  · isplitl [Hos] <;> iassumption
  imod (show iprop((bigSep Finset.univ fun i : CI => semVal (kcell c i) 0) ∗ bigSep Finset.univ fun i : CI => roundState ER (ringRd m ρ) (kcell c i) 0)
      ⊢ (|={Set.univ}=> bigSep Finset.univ fun i : CI => iprop(∃ κ : ℕ, cellInv ER (ringRd m ρ) κ (kcell c i)) : sProp 𝕄) from by
        rw [← bigSep_sep']
        exact (bigSep_mono fun i _ => (Rounds.body_intro ER (ringRd m ρ) (kcell c i)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- The tokens that device `c` pays with: of the signal to either neighbour, of every transfer's two cells. -/
def payToks (c : Dev nD) : sProp 𝕄 :=
  iprop((dutyTok ER (barCell (src false c)) 0 false ∗ dutyTok ER (barCell (src true c)) 0 true)
    ∗ (bigSep Finset.univ fun t : T => dutyTok ER (sendCell c t) 0 false) ∗ bigSep Finset.univ fun t : T => dutyTok ER (recvCell (dst t.1 c) t) 0 false)

/-- A transfer and the device it comes from, and the same transfer and the device it goes to. -/
def route : Dev nD × T ≃ Dev nD × T :=
  ⟨fun p => (dst p.2.1 p.1, p.2), fun p => (src p.2.1 p.1, p.2), fun p => Prod.ext (src_dst p.2.1 p.1) rfl, fun p => Prod.ext (dst_src p.2.1 p.1) rfl⟩

theorem toks_split (c : Dev nD) : toks (F := F) c
    ⊢ iprop((dutyTok ER (barCell c) 0 false ∗ dutyTok ER (barCell c) 0 true)
      ∗ (bigSep Finset.univ fun t : T => dutyTok ER (sendCell c t) 0 false) ∗ bigSep Finset.univ fun t : T => dutyTok ER (recvCell c t) 0 false) := by
  unfold toks
  rw [bigSep_CI, bigSep_bool]
  refine sep_mono_right ((bigSep_mono fun i _ => ?_).trans (Entails.of_eq
    ((bigSep_univ_prod (fun i : Bool × T => (dutyTok ER (kcell c (some i)) 0 false : sProp 𝕄))).trans (bigSep_bool _))))
  exact bigSep_elim (Finset.mem_univ false)

theorem toks_around : (bigSep Finset.univ fun c : Dev nD => toks (F := F) c) ⊢ bigSep Finset.univ fun c : Dev nD => payToks (F := F) c := by
  refine (bigSep_mono fun c _ => toks_split (F := F) c).trans ?_
  unfold payToks
  rw [bigSep_sep', bigSep_sep', bigSep_sep', bigSep_sep', bigSep_sep', bigSep_sep',
    bigSep_univ_equiv (turn false).symm (fun c : Dev nD => (dutyTok ER (barCell c) 0 false : sProp 𝕄)),
    bigSep_univ_equiv (turn true).symm (fun c : Dev nD => (dutyTok ER (barCell c) 0 true : sProp 𝕄)),
    ← bigSep_univ_prod (fun p : Dev nD × T => (dutyTok ER (recvCell p.1 p.2) 0 false : sProp 𝕄)),
    ← bigSep_univ_prod (fun p : Dev nD × T => (dutyTok ER (recvCell (dst p.2.1 p.1) p.2) 0 false : sProp 𝕄)),
    bigSep_univ_equiv route (fun p : Dev nD × T => (dutyTok ER (recvCell p.1 p.2) 0 false : sProp 𝕄))]
  exact BI.Entails.refl _

/-! ## The global step -/

/-- The shared records without the levels, which the launch adds. -/
def shared : sProp 𝕄 :=
  iprop((bigSep Finset.univ fun ck : Dev nD × CI => cellInv ER (ringRd m ρ) (K ck) (kcell ck.1 ck.2))
    ∗ bigSep Finset.univ fun ck : Dev nD × CI => reached ER (kcell ck.1 ck.2) 0)

instance shared_persistent : BI.Persistent (shared m ρ K) := by unfold shared; infer_instance

/-- What device `c` has of the ring, but for levels and credits. -/
def part (c : Dev nD) : sProp 𝕄 := iprop((bigSep Finset.univ fun i : CI => atPos ER (kcell c i) 0 ∅ 0) ∗ payToks (F := F) c)
def G' (c : Dev nD) : sProp 𝕄 := iprop(∃ K, shared m ρ K ∗ part (F := F) c)

theorem G'_intro (c : Dev nD) : iprop(shared m ρ K ∗ part (F := F) c) ⊢ G' m ρ c := by
  unfold G'
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => placed m ρ c) ⊢ bigSep Finset.univ (G' m ρ) := by
  unfold placed
  rw [bigSep_sep', bigSep_sep', ← bigSep_univ_prod (fun ck : Dev nD × CI => iprop(∃ κ : ℕ, cellInv ER (ringRd m ρ) κ (kcell ck.1 ck.2))),
    bigSep_congr (s := Finset.univ) (fun (c : Dev nD) _ => bigSep_sep' Finset.univ (fun i : CI => (atPos ER (kcell c i) 0 ∅ 0 : sProp 𝕄)) (fun i => reached ER (kcell c i) 0)),
    bigSep_sep', ← bigSep_univ_prod (fun ck : Dev nD × CI => (reached ER (kcell ck.1 ck.2) 0 : sProp 𝕄))]
  iintro ⟨HI, ⟨Hat, #HR⟩, Htok⟩
  ihave HK := (BI.bigSep_exists_pi Finset.univ (fun (ck : Dev nD × CI) (κ : ℕ) => (cellInv ER (ringRd m ρ) κ (kcell ck.1 ck.2) : sProp 𝕄))) $$ HI
  icases HK with ⟨%K, #HI⟩
  ihave Htk := (toks_around (F := F)) $$ Htok
  iapply (bigSep_with_persistent (R := shared m ρ K) fun c _ => G'_intro m ρ K c)
  isplitr
  · unfold shared; isplitl; · iexact HI
    iexact HR
  · unfold part
    iapply (Entails.of_eq (bigSep_sep' Finset.univ (fun c : Dev nD => bigSep Finset.univ fun i : CI => (atPos ER (kcell c i) 0 ∅ 0 : sProp 𝕄)) (payToks (F := F))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem tally_cell (a b : Dev nD) (i j : CI) (n : ℕ) :
    (tallyAt (kcell a i) () n : CellTallies nD τ sig Unit) (kcell b j) () = if a = b ∧ i = j then n else 0 := by
  rw [tallyAt_apply]
  by_cases h : a = b ∧ i = j
  · rw [if_pos h, if_pos ⟨by rw [h.1, h.2], rfl⟩]
  · rw [if_neg h, if_neg fun h' => h (by have := kcell_inj h'.1; exact ⟨this.1.symm, this.2.symm⟩)]

/-- What device `e` owes device `c`'s barrier, -/
theorem owed_bar (e c : Dev nD) : O₀ e (barCell c) () = (if nxt e = c then 1 else 0) + (if prv e = c then 1 else 0) := by
  rw [O₀_apply, oweFrom_apply, Finset.sum_eq_zero (fun t _ => by rw [tally_cell, if_neg fun h => Option.some_ne_none _ h.2]), tally_cell, tally_cell, Nat.zero_add]
  simp only [and_true]

/-- and its receive cell of transfer `t`. -/
theorem owed_recv (e c : Dev nD) (t : T) : O₀ e (recvCell c t) () = if dst t.1 e = c then N else 0 := by
  rw [O₀_apply, oweFrom_apply, tally_cell, tally_cell, if_neg (fun h => Option.some_ne_none _ h.2.symm), if_neg (fun h => Option.some_ne_none _ h.2.symm),
    Nat.add_zero,
    Finset.sum_eq_single_of_mem t (Finset.mem_filter.mpr ⟨Finset.mem_univ _, Nat.zero_le _⟩)
      (fun x _ hx => by rw [tally_cell, if_neg fun h => hx (congrArg Prod.snd (Option.some.inj h.2))]), tally_cell]
  simp only [and_true]

theorem sum_nxt (c : Dev nD) : (∑ e : Dev nD, ((if nxt e = c then 1 else 0) + (if prv e = c then 1 else 0))) = 2 := by revert c; decide
theorem sum_dst (d : Bool) (c : Dev nD) (n : ℕ) : (∑ e : Dev nD, if dst d e = c then n else 0) = n := by
  rw [Finset.sum_eq_single_of_mem (src d c) (Finset.mem_univ _) fun e _ he => if_neg fun h => he (by rw [← h, src_dst]), if_pos (dst_src d c)]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun e _ => owed_bar e c, sum_nxt]

theorem launch_recv (c : Dev nD) (t : T) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun e _ => owed_recv e c t, sum_dst]

theorem second (P Q : sProp 𝕄) : iprop(P ∗ Q) ⊢ Q := by
  iintro ⟨-, H⟩
  iexact H

theorem creds (c : Dev nD) :
    (Pipeline.launchCred O₀ c : sProp 𝕄) ⊢ iprop(cred (tallyAt (barCell c) () 2) ∗ bigSep Finset.univ fun t : T => cred (tallyAt (recvCell c t) () N)) := by
  unfold Pipeline.launchCred
  refine (bigSep_subset (Finset.subset_univ (Finset.univ.map ⟨csem, csem_inj⟩))).trans ?_
  rw [bigSep_map, bigSep_CI]
  refine BI.sep_mono (Entails.of_eq (congrArg cred (launch_bar c))) ?_
  rw [bigSep_univ_prod, bigSep_bool]
  refine BI.Entails.trans ?_ (bigSep_mono fun t _ => Entails.of_eq (congrArg cred (launch_recv c t)))
  exact second _ _

/-! ## What the launch theorem asks -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, #Hlev, Hcr, -, HG⟩
  ihave Hc := (creds (F := F) c) $$ Hcr
  icases Hc with ⟨HcB, HcV⟩
  unfold G' part payToks
  rw [bigSep_CI, bigSep_univ_prod (fun i : Bool × T => (atPos ER (kcell c (some i)) 0 ∅ 0 : sProp 𝕄)), bigSep_bool]
  icases HG with ⟨%K, HS, ⟨HaB, HaS, HaV⟩, HtB, HtS, HtV⟩
  imodintro
  isplitl
  · unfold start
    iexists K
    unfold ghost records shared
    icases HS with ⟨#HI, #HR⟩
    isplitr
    · isplitr; · iexact HI
      isplitr; · iexact HR
      iexact Hlev
    isplitl [HtB]; · iexact HtB
    isplitl [HaB HcB]
    · isplitl [HaB]; · iexact HaB
      iexact HcB
    unfold grant
    simp only [bigSep_sep']
    isplitl [HtS HtV]
    · isplitl [HtS]; · iexact HtS
      iexact HtV
    isplitl [HaS HaV]
    · isplitl [HaS]; · iexact HaS
      iexact HaV
    iexact HcV
  · iempintro

theorem scratch_eq (c : Dev nD) : (Pipeline.scopedRest (Ix := Unit) (Name := ℕ) (U := UU) (Lvl := ℕ) (Val := Elt F) spec0 c : sProp 𝕄) = scratch (F := F) c := by
  rw [scopedRest0_eq]
  unfold scratch
  simp only [comm, kM, owns_whole]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ended (F := F) c from rfl, scratch_eq, unscopedSems0_eq]
  unfold ended
  iintro ⟨Hr, HS, HB⟩
  isplitl [HB]; · iexact HB
  isplitl [HS]
  · unfold Pipeline.ownSems0
    iexact HS
  iexact Hr

theorem stage_ne : ∀ (w : Fin cfg0.W) (s : Fin (cfg0.win w).nbuf) (i : CI), csem i ≠ .dma ((cfg0.win w).sem s) := by decide +kernel

theorem waits (c : Dev nD) : (levAts L lv : sProp 𝕄) ⊢ Pipeline.cellsWaits cfgs (dats m ρ) () 0 c :=
  Pipeline.cellsWaits_intro cfgs (dats m ρ) () 0 c fun w s t => by
    have h := mayWait_stage (F := F) c (.dma ((cfg0.win w).sem s)) (dec_none (stage_ne w s))
    rcases t with ⟨_ | _, ht⟩
    · exact h
    · show _ ⊢ MayWait _ _ _ 0
      rw [MayWait_zero]
      iintro -
      iempintro

/-! ## The run -/

/-- An array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every execution of the program on the four devices ends, with every device's
    arrays at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run are what they were. -/
theorem finalA_arg0 (c : Dev nD) : finalA m ρ c (0 : Fin 3) = (s₀ m ρ).mem (win0_0.arr.view.loc (c : Thread nD τ)) :=
  (dats (F := F) m ρ 0 c).arrAt_in (0 : Fin 3) rfl _
theorem finalA_arg1 (c : Dev nD) : finalA m ρ c (1 : Fin 3) = (s₀ m ρ).mem (win0_1.arr.view.loc (c : Thread nD τ)) :=
  (dats (F := F) m ρ 0 c).arrAt_in (1 : Fin 3) rfl _

end Cert.KernelIdealProof
-- ==== Proof.KernelIdeal.Value.lean ====
/-
# `Value`: the result in exact arithmetic

Over the extended reals a change of format is the identity and sums may be taken in any order. Device `c`'s result is
then the sum, over the four devices `e`, of row block `c` of `A_e` times `B_e`.
-/
module

public import proofs.«01_k».proof.Proof.KernelIdeal.Launch
public import Idealize.ShloMosaic.Lib.Pointwise

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ UU ℕ

variable (m : (ℓ : Loc nD τ sig) → Buf (Elt Ideal) ℓ) (ρ : Dev nD → PrngReg)

variable (K : Dev nD × CI → ℕ)

set_option maxRecDepth 16384

/-- Where a rectangle's index lies. -/
theorem emb_val {s : Shape} (off size : Fin s.rank → ℕ) (inb : ∀ a, off a + size a ≤ s.size a) (i : (Rect.unit off size inb).shape.Idx) (a : Fin s.rank) :
    ((Rect.unit off size inb).emb i a).val = off a + (i a).val := by
  show off a + 1 * (i a).val = _
  rw [Nat.one_mul]

/-- Place `a` of the `k`-th 512 of 2048 places. -/
def at4 (k : Fin 4) (a : Fin 512) : Fin 2048 := ⟨512 * k.val + a.val, by omega⟩

/-- The entries of a device's A and B, as extended reals. -/
def eA (e : Dev nD) (p : Fin 2048) (x : Fin 1024) : EReal := xA m ρ e (ix2 p x)
def eB (e : Dev nD) (x : Fin 1024) (q : Fin 2048) : EReal := xB m ρ e (ix2 x q)

/-- Entry `(a, b)` of the product of row block `k` of device `e`'s A with column tile `j` of its B. -/
def mul (e k : Dev nD) (j : Fin 4) (a b : Fin 512) : EReal :=
  ∑ x : Fin 1024, eA m ρ e (at4 k a) x * eB m ρ e x (at4 j b)

theorem aRows_apply (c k : Dev nD) (a : Fin 512) (x : Fin 1024) :
    aRows m ρ c k (ix2 a x) = xA m ρ c (ix2 (at4 k a) x) := by
  unfold aRows
  refine congrArg (xA m ρ c) ?_
  funext z; apply Fin.ext; simp only [emb_val]; fin_cases z <;> simp [at4]

theorem bCols_apply (c : Dev nD) (j : Fin 4) (x : Fin 1024) (b : Fin 512) :
    bCols m ρ c j (ix2 x b) = xB m ρ c (ix2 x (at4 j b)) := by
  unfold bCols
  refine congrArg (xB m ρ c) ?_
  funext z; apply Fin.ext; simp only [emb_val]; fin_cases z <;> simp [at4]

theorem bHalf_apply (c : Dev nD) (h : Fin 2) (x b : Fin 1024) :
    bHalf m ρ c h (ix2 x b) = xB m ρ c (ix2 x (⟨1024 * h.val + b.val, by omega⟩ : Fin 2048)) := by
  unfold bHalf
  refine congrArg (xB m ρ c) ?_
  funext z; apply Fin.ext; simp only [emb_val]; fin_cases z <;> simp [at4]

/-- The first product, at an entry. -/
theorem first_apply (c : Dev nD) (d : Bool) (r : Fin 2) (a b : Fin 512) :
    first m ρ c d r (ix2 a b) = mul m ρ c (firstRows d c) (tile d r) a b := by
  unfold first mul
  pointwise []
  exact Finset.sum_congr rfl fun x _ => congrArg₂ _ (aRows_apply m ρ c _ a x) (bCols_apply m ρ c _ x b)

/-- A rail's half of a step's product, at an entry. -/
theorem rail_apply (c : Dev nD) (d : Bool) (r : Fin 2) (s : Fin 3) (a b : Fin 512) :
    railOf r (prod m ρ c d s) (ix2 a b) = mul m ρ c (stepRows d c s) (tile d r) a b := by
  unfold mul
  have key (q : Fin 1024) (hq : 1024 * (half d).val + q.val = 512 * (tile d r).val + b.val) :
      prod m ρ c d s (ix2 a q) = ∑ x : Fin 1024, eA m ρ c (at4 (stepRows d c s) a) x * eB m ρ c x (at4 (tile d r) b) := by
    unfold prod
    pointwise []
    refine Finset.sum_congr rfl fun x _ => congrArg₂ _ (aRows_apply m ρ c _ a x) ((bHalf_apply m ρ c _ x q).trans ?_)
    exact congrArg (fun y => xB m ρ c (ix2 x y)) (Fin.ext hq)
  match r with
  | 0 =>
    refine Eq.trans ?_ (key ⟨b.val, by omega⟩ (by cases d <;> rfl))
    unfold railOf
    pointwise []
  | 1 =>
    refine Eq.trans ?_ (key ⟨512 + b.val, by omega⟩ (by cases d <;> simp [half, tile] <;> omega))
    unfold railOf
    pointwise []

/-- Entry `(a, b)` of what is sent, as a sum of products. -/
def gathered (d : Bool) (j : Fin 4) (a b : Fin 512) : ℕ → Dev nD → EReal
  | 0, c => mul m ρ c (firstRows d c) j a b
  | s + 1, c => mul m ρ c (stepRows d c (Fin.ofNat 3 s)) j a b + gathered d j a b s (src d c)

theorem asSlot_back (v : FVec Ideal S512x512 .bf16) : shapeCast S512x512 (asSlot v) shapeCasts_S1x1x512x512_S512x512 = v := by
  unfold asSlot
  funext i
  idx_vars i
  pointwise []

theorem addLanded_apply (r : Fin 2) (p : FVec Ideal S512x1024 .f32) (v : FVec Ideal S512x512 .bf16) (a b : Fin 512) :
    addLanded r p (asSlot v) (ix2 a b) = (railOf r p (ix2 a b) : EReal) + (v (ix2 a b) : EReal) := by
  unfold addLanded
  rw [asSlot_back]
  rfl

/-- What is sent is a tile seen as a slot, and its entries are the sums. -/
theorem sentAt_apply (d : Bool) (r : Fin 2) : ∀ (s : ℕ) (c : Dev nD), ∃ v : FVec Ideal S512x512 .bf16, sentAt m ρ s c d r = asSlot v
    ∧ ∀ a b : Fin 512, v (ix2 a b) = gathered m ρ d (tile d r) a b s c
  | 0, c => ⟨_, rfl, fun a b => first_apply m ρ c d r a b⟩
  | s + 1, c => by
    obtain ⟨w, hw, hv⟩ := sentAt_apply d r s (src d c)
    refine ⟨_, rfl, fun a b => ?_⟩
    rw [hw]
    refine (addLanded_apply r (prod m ρ c d (Fin.ofNat 3 s)) w a b).trans ?_
    rw [hv, rail_apply]
    rfl

/-- The four terms that come together at device `c` are those of the four devices. -/
theorem around (d : Bool) (c : Dev nD) (f : Dev nD → EReal) : f c + (f (src d c) + (f (src d (src d c)) + f (src d (src d (src d c))))) = ∑ e : Dev nD, f e := by
  have hb : ∀ (d : Bool) (c : Dev nD), Function.Bijective (![c, src d c, src d (src d c), src d (src d (src d c))] : Fin 4 → Dev nD) := by decide
  rw [← Fintype.sum_bijective _ (hb d c) (fun i => f ((![c, src d c, src d (src d c), src d (src d (src d c))] : Fin 4 → Dev nD) i)) f fun _ => rfl,
    Fin.sum_univ_four, add_assoc, add_assoc]
  rfl

theorem gathered_all (d : Bool) (j : Fin 4) (a b : Fin 512) (c : Dev nD) :
    mul m ρ c (stepRows d c 2) j a b + gathered m ρ d j a b 2 (src d c) = ∑ e : Dev nD, mul m ρ e c j a b := by
  have h2 : stepRows d c 2 = c := by revert d c; decide
  have h1 : stepRows d (src d c) (Fin.ofNat 3 1) = c := by revert d c; decide
  have h0 : stepRows d (src d (src d c)) (Fin.ofNat 3 0) = c := by revert d c; decide
  have hf : firstRows d (src d (src d (src d c))) = c := by revert d c; decide
  rw [← around d c]
  show _ + (mul m ρ _ _ j a b + (mul m ρ _ _ j a b + mul m ρ _ _ j a b)) = _
  rw [h2, h1, h0, hf]

/-- The sum of the four devices' products. -/
def total (c : Dev nD) (j : Fin 4) (a b : Fin 512) : EReal := ∑ e : Dev nD, mul m ρ e c j a b

/-- Entry `(a, b)` of column tile `j` of the result. -/
theorem outAt_apply (c : Dev nD) (j : Fin 4) (a b : Fin 512) :
    outAt m ρ c (ix2 a (at4 j b)) = total m ρ c j a b := by
  have hi : (ix2 a (at4 j b) : S512x2048.Idx) = (outR j).emb (ix2 a b) := by
    funext z; apply Fin.ext; simp only [emb_val]; fin_cases z <;> simp [at4]
  rw [hi, outAt_emb]
  obtain ⟨w, hw, hv⟩ := sentAt_apply m ρ (untile j).1 (untile j).2 2 (src (untile j).1 c)
  unfold outTile
  rw [show landed m ρ c ((untile j).1, (untile j).2, 2) = asSlot w from hw]
  refine (addLanded_apply _ _ w a b).trans ?_
  rw [hv, rail_apply, tile_untile]
  exact gathered_all m ρ _ j a b c

/-! ## The buffers -/

theorem xA_eq (c : Dev nD) : xA m ρ c = m ((c : Thread nD τ).loc main_arg0) :=
  Memref.read_access_unit_zero (Elt Ideal) main_arg0 (funext fun a => by fin_cases a <;> decide) (fun a => by fin_cases a <;> decide) _
theorem xB_eq (c : Dev nD) : xB m ρ c = m ((c : Thread nD τ).loc main_arg1) :=
  Memref.read_access_unit_zero (Elt Ideal) main_arg1 (funext fun a => by fin_cases a <;> decide) (fun a => by fin_cases a <;> decide) _

/-- The result array after the run holds what the body computed. -/
theorem finalA_out (c : Dev nD) : finalA m ρ c (2 : Fin 3) = outAt m ρ c := by
  have h : (win0_2.blk (0 : Fin 1)).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [← h]
  exact (Memref.read_access_unit_zero (Elt Ideal) main_v1 (funext fun a => by fin_cases a <;> decide) (fun a => by fin_cases a <;> decide) _).symm

/-! ## Against the whole product -/

/-- If every device holds its column block of a matrix `A` and its row block of a matrix `B`, every device's result
    is its row block of the product. -/
theorem result_eq (A : (⟨2, ![2048, 4096]⟩ : Shape).Idx → EReal) (B : (⟨2, ![4096, 2048]⟩ : Shape).Idx → EReal) (P : (⟨2, ![2048, 2048]⟩ : Shape).Idx → EReal)
    (hP : ∀ p q : Fin 2048, P (ix2 p q) = ∑ y : Fin 4096, A (ix2 p y) * B (ix2 y q))
    (hA : ∀ c : Dev nD, m ((c : Thread nD τ).loc main_arg0) = Layout.block ⟨2, ![2048, 1024]⟩ ⟨2, ![2048, 4096]⟩ 1 4 c A)
    (hB : ∀ c : Dev nD, m ((c : Thread nD τ).loc main_arg1) = Layout.block ⟨2, ![1024, 2048]⟩ ⟨2, ![4096, 2048]⟩ 0 4 c B) (c : Dev nD) :
    finalA m ρ c (2 : Fin 3) = Layout.block ⟨2, ![512, 2048]⟩ ⟨2, ![2048, 2048]⟩ 0 4 c P := by
  rw [finalA_out]
  funext i
  obtain ⟨a, q, rfl⟩ : ∃ (a : Fin 512) (q : Fin 2048), i = ix2 a q := ⟨i 0, i 1, eq_ix2 i⟩
  obtain ⟨j, b, rfl⟩ : ∃ (j : Fin 4) (b : Fin 512), q = at4 j b :=
    ⟨⟨q.val / 512, by omega⟩, ⟨q.val % 512, Nat.mod_lt _ (by decide)⟩, Fin.ext (by show q.val = 512 * (q.val / 512) + q.val % 512; omega)⟩
  rw [outAt_apply, Layout.block_apply]
  have hrow : (Layout.Tiles.idx (S := ⟨2, ![512, 2048]⟩) (T := ⟨2, ![2048, 2048]⟩) (a := 0) (k := 4) (by decide) c
      (ix2 a (at4 j b)))
      = ix2 (at4 c a) (at4 j b) := by
    funext x; apply Fin.ext; rw [Layout.Tiles.idx_val]; fin_cases x
    · show c.val * 512 + a.val = 512 * c.val + a.val; omega
    · rfl
  have hsum : total m ρ c j a b = ∑ y : Fin 4096, A (ix2 (at4 c a) y) * B (ix2 y (at4 j b)) := by
    unfold total mul
    rw [Fin.sum_univ_tiles 4 1024 rfl]
    refine Finset.sum_congr rfl fun e _ => Finset.sum_congr rfl fun x _ => ?_
    unfold eA eB
    rw [xA_eq, xB_eq, hA e, hB e, Layout.block_apply, Layout.block_apply]
    refine congrArg₂ _ (congrArg A ?_) (congrArg B ?_)
    · funext z; apply Fin.ext; rw [Layout.Tiles.idx_val]; fin_cases z <;> rfl
    · funext z; apply Fin.ext; rw [Layout.Tiles.idx_val]; fin_cases z <;> rfl
  rw [hrow]
  exact hsum.trans (hP _ _).symm

end Cert.KernelIdealProof
-- ==== Proof.lean ====
/-
# The certificate

Three frames and the value claim, each from its own modules:

* `Proof/Kernel/` and `Proof/KernelIdeal/` prove that the program runs on the ring of four devices (`run_main`): the
  first for the kernel at its bit patterns, the second for its idealization. The two are the same text.
* `Proof/KernelIdeal/Value.lean` computes the result in exact arithmetic (`result_eq`).
* The reference is three operations on one device; its run is generated.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Kernel.Launch
public import proofs.«01_k».proof.Proof.KernelIdeal.Launch
public import proofs.«01_k».proof.Proof.KernelIdeal.Value

@[expose] public section

noncomputable section

namespace Cert.Proof

open Idealize.ShloMosaic Idealize.ShloMosaic.TcCoe Idealize.SL.Sem

/-- The witnesses of the programs' stated side conditions. -/
instance : Cert.Kernel.Facts := Cert.Kernel.Gen.facts
instance : Cert.KernelIdeal.Facts := Cert.KernelIdeal.Gen.facts
instance : Cert.ReferenceIdeal.Facts := Cert.ReferenceIdeal.Gen.facts

/-- The kernel runs on the four devices and ends with its arguments unchanged and every semaphore at zero. -/
theorem frame_kernel : Cert.quiescent_Kernel := by
  intro m ρ _
  exact (θ_run Cert.Kernel.defs _ _).mono
    (fun _ h => ⟨fun c => ⟨(h.1 c (0 : Fin 3)).trans (Cert.KernelProof.finalA_arg0 m ρ c), (h.1 c (1 : Fin 3)).trans (Cert.KernelProof.finalA_arg1 m ρ c)⟩, h.2⟩)
    (Cert.KernelProof.run_main (F := Bits) m ρ)

/-- So does its idealization. -/
theorem frame_kernelIdeal : Cert.quiescent_KernelIdeal := by
  intro m ρ _
  exact (θ_run Cert.KernelIdeal.defs _ _).mono
    (fun _ h => ⟨fun c => ⟨(h.1 c (0 : Fin 3)).trans (Cert.KernelIdealProof.finalA_arg0 m ρ c), (h.1 c (1 : Fin 3)).trans (Cert.KernelIdealProof.finalA_arg1 m ρ c)⟩, h.2⟩)
    (Cert.KernelIdealProof.run_main (F := Ideal) m ρ)

/-- So does the reference, which has no semaphore. -/
theorem frame_referenceIdeal : Cert.quiescent_ReferenceIdeal := by
  intro m ρ _
  exact (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- The reference's result, entry by entry: the product of its two arguments. -/
theorem reference_apply (A : FVec Ideal Cert.ReferenceIdeal.S2048x4096 .bf16) (B : FVec Ideal Cert.ReferenceIdeal.S4096x2048 .bf16) (p q : Fin 2048) :
    Host.dotGeneral Cert.ReferenceIdeal.dot_S2048x4096_S4096x2048_S2048x2048_1_0_0_1_n_n none
        (extf .f32 A Cert.ReferenceIdeal.Facts₀.bitsLt_bf16_f32) (extf .f32 B Cert.ReferenceIdeal.Facts₀.bitsLt_bf16_f32) (ix2 p q)
      = ∑ y : Fin 4096, (A (ix2 p y) : EReal) * (B (ix2 y q) : EReal) := by
  pointwise []

/-- In exact arithmetic device `c`'s result is row block `c` of the reference's. -/
theorem value : Cert.algebraic_KernelIdeal_ReferenceIdeal := by
  intro m g m' g' _ hagree
  refine ⟨_, (θ_run Cert.KernelIdeal.defs _ _).mono
      (fun _ h c => ⟨(h.1 c (2 : Fin 3)).trans (Cert.KernelIdealProof.result_eq m g _ _ _ (reference_apply _ _) (fun c => (hagree c).1) (fun c => (hagree c).2) c),
        (h.1 c (0 : Fin 3)).trans (Cert.KernelIdealProof.finalA_arg0 m g c), (h.1 c (1 : Fin 3)).trans (Cert.KernelIdealProof.finalA_arg1 m g c)⟩)
      (Cert.KernelIdealProof.run_main (F := Ideal) m g),
    (θ_run Cert.ReferenceIdeal.defs _ _).mono (fun _ h => h 0) (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
